-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x19x512x512 : Shape := ⟨4, ![8, 19, 512, 512]⟩
abbrev S8x512x512 : Shape := ⟨3, ![8, 512, 512]⟩
abbrev S8x19x262144 : Shape := ⟨3, ![8, 19, 262144]⟩
abbrev S2097152 : Shape := ⟨1, ![2097152]⟩
abbrev S32x3x16 : Shape := ⟨3, ![32, 3, 16]⟩
abbrev S19x2048 : Shape := ⟨2, ![19, 2048]⟩
abbrev S2048 : Shape := ⟨1, ![2048]⟩
abbrev S3x16 : Shape := ⟨2, ![3, 16]⟩
abbrev S16 : Shape := ⟨1, ![16]⟩
abbrev S_ : Shape := ⟨0, ![]⟩
abbrev S1x19x2048 : Shape := ⟨3, ![1, 19, 2048]⟩
abbrev S1x16 : Shape := ⟨2, ![1, 16]⟩
abbrev S1x3x16 : Shape := ⟨3, ![1, 3, 16]⟩
abbrev S32x1x16 : Shape := ⟨3, ![32, 1, 16]⟩
abbrev S32x16 : Shape := ⟨2, ![32, 16]⟩

abbrev nBuf : Table → Nat
  | .hbm => 38
  | .local .scVector .vmem => 3
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S8x19x262144, .f32⟩
  | .hbm, ⟨3, _⟩ => ⟨S2097152, .i32⟩
  | .hbm, ⟨4, _⟩ => ⟨S32x3x16, .f32⟩
  | .hbm, ⟨5, _⟩ => ⟨S32x1x16, .f32⟩
  | .hbm, ⟨6, _⟩ => ⟨S32x16, .f32⟩
  | .hbm, ⟨7, _⟩ => ⟨S_, .f32⟩
  | .hbm, ⟨8, _⟩ => ⟨S_, .f32⟩
  | .hbm, ⟨9, _⟩ => ⟨S32x1x16, .f32⟩
  | .hbm, ⟨10, _⟩ => ⟨S32x16, .f32⟩
  | .hbm, ⟨11, _⟩ => ⟨S_, .f32⟩
  | .hbm, ⟨12, _⟩ => ⟨S_, .f32⟩
  | .hbm, ⟨13, _⟩ => ⟨S32x1x16, .f32⟩
  | .hbm, ⟨14, _⟩ => ⟨S32x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local .scVector .vmem, ⟨0, _⟩ => ⟨S19x2048, .f32⟩
  | .local .scVector .vmem, ⟨1, _⟩ => ⟨S2048, .i32⟩
  | .local .scVector .vmem, ⟨2, _⟩ => ⟨S3x16, .f32⟩
  | _, _ => ⟨S8x19x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_call0_v0 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_cst_8 : Ref sig .tc := ⟨.hbm, 32, rfl⟩
abbrev main_call1_v0 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c32_i32 : BitVec 32 := 32#32
  let v23 : BitVec 32 := Scalar.addi c0_i32_4 c32_i32
  let c1_i32_5 : BitVec 32 := 1#32
  ⟨c0_i32_4, v23, c1_i32_5⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_16_r0 : BitVec 32 := 0#32
  let c65536_i32 : BitVec 32 := 65536#32
  let v19 : BitVec 32 := Scalar.muli v1 c65536_i32
  let c262144_i32 : BitVec 32 := 262144#32
  let v20 : BitVec 32 := Scalar.muli v18 c262144_i32
  let v21 : BitVec 32 := Scalar.subi v19 v20
  let c0_i32_4 : BitVec 32 := 0#32
  let c1_i32_5 : BitVec 32 := 1#32
  let arg8 : BitVec 32 := Scf.iv c0_i32_4 c1_i32_5 k0_t1
  let c2048_i32 : BitVec 32 := 2048#32
  let v37 : BitVec 32 := Scalar.muli arg8 c2048_i32
  let v38 : BitVec 32 := Scalar.addi v21 v37
  ![v18.toNat, 0, v38.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v19 : BitVec 32 := Scalar.muli v1 c65536_i32
  let c0_i32_4 : BitVec 32 := 0#32
  let c1_i32_5 : BitVec 32 := 1#32
  let arg8 : BitVec 32 := Scf.iv c0_i32_4 c1_i32_5 k0_t1
  let c2048_i32_12 : BitVec 32 := 2048#32
  let v39 : BitVec 32 := Scalar.muli arg8 c2048_i32_12
  let v40 : BitVec 32 := Scalar.addi v19 v39
  ![v40.toNat]
@[reducible] def k0_t2_loop : Scf.Loop 32 :=
  let c0_i32_13 : BitVec 32 := 0#32
  let c128_i32 : BitVec 32 := 128#32
  let v41 : BitVec 32 := Scalar.addi c0_i32_13 c128_i32
  let c1_i32_14 : BitVec 32 := 1#32
  ⟨c0_i32_13, v41, c1_i32_14⟩
def k0_off3 (k0_t2 : Fin k0_t2_loop.trips) : Fin 2 → Nat :=
  let c0_i32_16 : BitVec 32 := 0#32
  let v44 : Index := Scalar.indexCast c0_i32_16
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v45 : Index := Scalar.indexCast v43
  ![0, v45.toNat]
def k0_off4 (k0_t2 : Fin k0_t2_loop.trips) : Fin 2 → Nat :=
  let c1_i32_17 : BitVec 32 := 1#32
  let v50 : Index := Scalar.indexCast c1_i32_17
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v51 : Index := Scalar.indexCast v43
  ![1, v51.toNat]
def k0_off5 (k0_t2 : Fin k0_t2_loop.trips) : Fin 2 → Nat :=
  let c2_i32_18 : BitVec 32 := 2#32
  let v56 : Index := Scalar.indexCast c2_i32_18
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v57 : Index := Scalar.indexCast v43
  ![2, v57.toNat]
def k0_off6 (k0_t2 : Fin k0_t2_loop.trips) : Fin 2 → Nat :=
  let c3_i32 : BitVec 32 := 3#32
  let v62 : Index := Scalar.indexCast c3_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v63 : Index := Scalar.indexCast v43
  ![3, v63.toNat]
def k0_off7 (k0_t2 : Fin k0_t2_loop.trips) : Fin 2 → Nat :=
  let c4_i32_19 : BitVec 32 := 4#32
  let v68 : Index := Scalar.indexCast c4_i32_19
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v69 : Index := Scalar.indexCast v43
  ![4, v69.toNat]
def k0_off8 (k0_t2 : Fin k0_t2_loop.trips) : Fin 2 → Nat :=
  let c5_i32 : BitVec 32 := 5#32
  let v74 : Index := Scalar.indexCast c5_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v75 : Index := Scalar.indexCast v43
  ![5, v75.toNat]
def k0_off9 (k0_t2 : Fin k0_t2_loop.trips) : Fin 2 → Nat :=
  let c6_i32 : BitVec 32 := 6#32
  let v80 : Index := Scalar.indexCast c6_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v81 : Index := Scalar.indexCast v43
  ![6, v81.toNat]
def k0_off10 (k0_t2 : Fin k0_t2_loop.trips) : Fin 2 → Nat :=
  let c7_i32 : BitVec 32 := 7#32
  let v86 : Index := Scalar.indexCast c7_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v87 : Index := Scalar.indexCast v43
  ![7, v87.toNat]
def k0_off11 (k0_t2 : Fin k0_t2_loop.trips) : Fin 2 → Nat :=
  let c8_i32 : BitVec 32 := 8#32
  let v92 : Index := Scalar.indexCast c8_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v93 : Index := Scalar.indexCast v43
  ![8, v93.toNat]
def k0_off12 (k0_t2 : Fin k0_t2_loop.trips) : Fin 2 → Nat :=
  let c9_i32 : BitVec 32 := 9#32
  let v98 : Index := Scalar.indexCast c9_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v99 : Index := Scalar.indexCast v43
  ![9, v99.toNat]
def k0_off13 (k0_t2 : Fin k0_t2_loop.trips) : Fin 2 → Nat :=
  let c10_i32 : BitVec 32 := 10#32
  let v104 : Index := Scalar.indexCast c10_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v105 : Index := Scalar.indexCast v43
  ![10, v105.toNat]
def k0_off14 (k0_t2 : Fin k0_t2_loop.trips) : Fin 2 → Nat :=
  let c11_i32 : BitVec 32 := 11#32
  let v110 : Index := Scalar.indexCast c11_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v111 : Index := Scalar.indexCast v43
  ![11, v111.toNat]
def k0_off15 (k0_t2 : Fin k0_t2_loop.trips) : Fin 2 → Nat :=
  let c12_i32 : BitVec 32 := 12#32
  let v116 : Index := Scalar.indexCast c12_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v117 : Index := Scalar.indexCast v43
  ![12, v117.toNat]
def k0_off16 (k0_t2 : Fin k0_t2_loop.trips) : Fin 2 → Nat :=
  let c13_i32 : BitVec 32 := 13#32
  let v122 : Index := Scalar.indexCast c13_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v123 : Index := Scalar.indexCast v43
  ![13, v123.toNat]
def k0_off17 (k0_t2 : Fin k0_t2_loop.trips) : Fin 2 → Nat :=
  let c14_i32 : BitVec 32 := 14#32
  let v128 : Index := Scalar.indexCast c14_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v129 : Index := Scalar.indexCast v43
  ![14, v129.toNat]
def k0_off18 (k0_t2 : Fin k0_t2_loop.trips) : Fin 2 → Nat :=
  let c15_i32 : BitVec 32 := 15#32
  let v134 : Index := Scalar.indexCast c15_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v135 : Index := Scalar.indexCast v43
  ![15, v135.toNat]
def k0_off19 (k0_t2 : Fin k0_t2_loop.trips) : Fin 2 → Nat :=
  let c16_i32_20 : BitVec 32 := 16#32
  let v140 : Index := Scalar.indexCast c16_i32_20
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v141 : Index := Scalar.indexCast v43
  ![16, v141.toNat]
def k0_off20 (k0_t2 : Fin k0_t2_loop.trips) : Fin 2 → Nat :=
  let c17_i32 : BitVec 32 := 17#32
  let v146 : Index := Scalar.indexCast c17_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v147 : Index := Scalar.indexCast v43
  ![17, v147.toNat]
def k0_off21 (k0_t2 : Fin k0_t2_loop.trips) : Fin 2 → Nat :=
  let c18_i32 : BitVec 32 := 18#32
  let v152 : Index := Scalar.indexCast c18_i32
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v153 : Index := Scalar.indexCast v43
  ![18, v153.toNat]
def k0_off22 (k0_t2 : Fin k0_t2_loop.trips) : Fin 1 → Nat :=
  let c0_i32_13 : BitVec 32 := 0#32
  let c1_i32_14 : BitVec 32 := 1#32
  let arg12 : BitVec 32 := Scf.iv c0_i32_13 c1_i32_14 k0_t2
  let c16_i32 : BitVec 32 := 16#32
  let v43 : BitVec 32 := Scalar.muli arg12 c16_i32
  let v158 : Index := Scalar.indexCast v43
  ![v158.toNat]
def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r2 : BitVec 32 := 0#32
  let c0_i32_13_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S8x512x512x19 : Shape := ⟨4, ![8, 512, 512, 19]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512x19, .f32⟩
  | .hbm, ⟨3, _⟩ => ⟨S8x512x512x19, .f32⟩
  | .hbm, ⟨4, _⟩ => ⟨S_, .f32⟩
  | .hbm, ⟨5, _⟩ => ⟨S8x512x512, .f32⟩
  | .hbm, ⟨6, _⟩ => ⟨S_, .i32⟩
  | .hbm, ⟨7, _⟩ => ⟨S8x512x512, .i32⟩
  | .hbm, ⟨8, _⟩ => ⟨S8x512x512, .i1⟩
  | .hbm, ⟨9, _⟩ => ⟨S8x512x512, .i1⟩
  | .hbm, ⟨10, _⟩ => ⟨S8x512x512, .i32⟩
  | .hbm, ⟨11, _⟩ => ⟨S_, .i32⟩
  | .hbm, ⟨12, _⟩ => ⟨S_, .i32⟩
  | .hbm, ⟨13, _⟩ => ⟨S8x512x512, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S8x512x512, .f32⟩
  | .hbm, ⟨19, _⟩ => ⟨S8x512x512, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x512x512, .f32⟩
  | .hbm, ⟨32, _⟩ => ⟨S8x512x512, .f32⟩
  | .hbm, ⟨33, _⟩ => ⟨S_, .f32⟩
  | .hbm, ⟨34, _⟩ => ⟨S8x512x512, .f32⟩
  | .hbm, ⟨35, _⟩ => ⟨S8x512x512, .f32⟩
  | .hbm, ⟨36, _⟩ => ⟨S_, .f32⟩
  | .hbm, ⟨37, _⟩ => ⟨S_, .f32⟩
  | .hbm, ⟨38, _⟩ => ⟨S8x512x512, .f32⟩
  | .hbm, ⟨39, _⟩ => ⟨S8x512x512, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_call2_cst : Ref sig .tc := ⟨.hbm, 33, rfl⟩
abbrev main_call2_v0 : Ref sig .tc := ⟨.hbm, 34, rfl⟩
abbrev main_v19 : Ref sig .tc := ⟨.hbm, 35, rfl⟩
abbrev main_cst_8 : Ref sig .tc := ⟨.hbm, 36, rfl⟩
abbrev main_call3_v0 : Ref sig .tc := ⟨.hbm, 37, rfl⟩
abbrev main_call3_v1 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_c_10 : Ref sig .tc := ⟨.hbm, 42, rfl⟩
abbrev main_v22 : Ref sig .tc := ⟨.hbm, 43, rfl⟩
abbrev main_c_11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_12 : Ref sig .tc := ⟨.hbm, 48, rfl⟩
abbrev main_v26 : Ref sig .tc := ⟨.hbm, 49, rfl⟩
abbrev main_cst_13 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]
-- ==== Proof.Tile.lean ====
/-
  One task of the kernel: what a vector subcore does with its block of the inputs, with the values it computes.
  The task's 65536 pixels are read in 32 blocks of 2048; a block is 128 groups of 16 lanes; every group adds three terms
  to the task's three running vectors (squared norms of the unknown pixels, hinge terms of the known ones, the number of
  unknown pixels). The vectors are written to the task's row of the output.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pointwise
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The labels of the program's calls. -/
abbrev ΛP : Labels := Pipeline.Sig Λ₀ (Fin 0) fun p => (pcfgs (F := F) p).Adm
/-- The launch. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the program needs a measure. -/
abbrev 𝒱₀ : Variants := Variants.none
/-- The same, at the launch's labels. -/
abbrev 𝒱 : Variants := 𝒱₀.lift
/-- The one measure. -/
abbrev v₀ : 𝒱.V := Sum.inl none

/-- The launch's side conditions: which semaphores are scoped, and that no task buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state. -/
abbrev UH : Type := URounds (GSem nD τ sig) ℕ
/-- The whole ghost state. -/
abbrev UU : Type := UH × Counters

local notation "𝕄" => MT nD τ sig (HIx 1) (Elt F) ℕ UU ℕ

/-- The handshakes' part of it. -/
abbrev EH : Emb UH (MT nD τ sig (HIx 1) (Elt F) ℕ UU ℕ) := embL

/-! ## The buffers -/

local notation "xV" => (Memref.whole Cert.KernelIdeal.main_v0_scv : Memref Cert.KernelIdeal.sig Kind.scVector Space.hbm Cert.KernelIdeal.S8x19x262144 EltTy.f32)
local notation "yV" => (Memref.whole Cert.KernelIdeal.main_v1_scv : Memref Cert.KernelIdeal.sig Kind.scVector Space.hbm Cert.KernelIdeal.S2097152 EltTy.i32)
local notation "oV" => (Memref.whole Cert.KernelIdeal.main_v2_scv : Memref Cert.KernelIdeal.sig Kind.scVector Space.hbm Cert.KernelIdeal.S32x3x16 EltTy.f32)
local notation "bV" => (Memref.whole Cert.KernelIdeal.cc0_scratch0 : Memref Cert.KernelIdeal.sig Kind.scVector Space.vmem Cert.KernelIdeal.S19x2048 EltTy.f32)
local notation "gV" => (Memref.whole Cert.KernelIdeal.cc0_scratch1 : Memref Cert.KernelIdeal.sig Kind.scVector Space.vmem Cert.KernelIdeal.S2048 EltTy.i32)
local notation "aV" => (Memref.whole Cert.KernelIdeal.cc0_scratch2 : Memref Cert.KernelIdeal.sig Kind.scVector Space.vmem Cert.KernelIdeal.S3x16 EltTy.f32)

/-- The core of the task at `L`. -/
abbrev cV (L : grid0.Coords) : Fin τ.nSC := (L 0).castLE hcore0
/-- The subcore of the task at `L`. -/
abbrev jV (L : grid0.Coords) : Fin τ.nSub := (L 1).castLE hsub0

variable [FloatOps F]

/-! ## What the task computes -/

/-- The three running vectors. -/
abbrev Acc (F : FTy → Type) [FloatOps F] : Type := FVec F S16 .f32 × FVec F S16 .f32 × FVec F S16 .f32

/-- Sixteen lanes of one row of a block of the logits. -/
def ld (B : S19x2048.Idx → F .f32) (off : Fin 2 → Nat) (inb : ∀ a, off a + S1x16.size a ≤ S19x2048.size a) : Vec F S1x16 .f32 :=
  View.readAt (Val := Elt F) (bV).view (Rect.unit (s := S19x2048) off S1x16.size inb).toLoadRect B

/-- Sixteen lanes of a block of the labels. -/
def ldG (G : S2048.Idx → BitVec 32) (off : Fin 1 → Nat) (inb : ∀ a, off a + S16.size a ≤ S2048.size a) : Vec F S16 .i32 :=
  View.readAt (Val := Elt F) (gV).view (Rect.unit (s := S2048) off S16.size inb).toLoadRect G

/-- What group `j` of a block with logits `B` and labels `G` makes of the running vectors. -/
def trip2 (B : S19x2048.Idx → F .f32) (G : S2048.Idx → BitVec 32) (j : Fin k0_t2_loop.trips) (a : Acc F) : Acc F :=
  let n8 := k0_pay2 k0_pay5 (ld B (k0_off3 j) (k0_off3_inb j)) (ld B (k0_off4 j) (k0_off4_inb j)) (ld B (k0_off5 j) (k0_off5_inb j))
    (ld B (k0_off6 j) (k0_off6_inb j)) (ld B (k0_off7 j) (k0_off7_inb j)) (ld B (k0_off8 j) (k0_off8_inb j)) (ld B (k0_off9 j) (k0_off9_inb j))
    (ld B (k0_off10 j) (k0_off10_inb j))
  let n16 := k0_pay3 n8 (ld B (k0_off11 j) (k0_off11_inb j)) (ld B (k0_off12 j) (k0_off12_inb j)) (ld B (k0_off13 j) (k0_off13_inb j))
    (ld B (k0_off14 j) (k0_off14_inb j)) (ld B (k0_off15 j) (k0_off15_inb j)) (ld B (k0_off16 j) (k0_off16_inb j)) (ld B (k0_off17 j) (k0_off17_inb j))
    (ld B (k0_off18 j) (k0_off18_inb j))
  let r16 := k0_pay4 (ld B (k0_off19 j) (k0_off19_inb j))
  let r17 := ld B (k0_off20 j) (k0_off20_inb j)
  let r18 := ld B (k0_off21 j) (k0_off21_inb j)
  let g := ldG (F := F) G (k0_off22 j) (k0_off22_inb j)
  (k0_pay8 a.1 n16 r16 r17 r18 g, k0_pay9 a.2.1 n16 r16 r17 r18 g, k0_pay10 a.2.2 g)

/-- The running vectors after the first `n` groups of a block. -/
def acc2 (B : S19x2048.Idx → F .f32) (G : S2048.Idx → BitVec 32) (a : Acc F) : ℕ → Acc F
  | 0 => a
  | n + 1 => if h : n < k0_t2_loop.trips then trip2 B G ⟨n, h⟩ (acc2 B G a n) else acc2 B G a n

/-- One group more. -/
theorem acc2_succ (B : S19x2048.Idx → F .f32) (G : S2048.Idx → BitVec 32) (a : Acc F) (j : Fin k0_t2_loop.trips) :
    acc2 B G a (j.val + 1) = trip2 B G j (acc2 B G a j.val) := by
  rw [acc2, dif_pos j.isLt]

section Inner

variable (d : Dev nD) (L : grid0.Coords)

/-- Between the groups of one block: the block's two buffers, and the running vectors so far. -/
def inv2 (B : S19x2048.Idx → F .f32) (G : S2048.Idx → BitVec 32) (a : Acc F) (n : Nat) (b : Acc F) : sProp 𝕄 :=
  iprop(⌜b = acc2 B G a n⌝
    ∗ ((bV).view.loc (V d (cV L) (jV L)) ↦{fullShare} (B : Buf (Elt F) ((V d (cV L) (jV L)).loc cc0_scratch0)))
    ∗ ((gV).view.loc (V d (cV L) (jV L)) ↦{fullShare} (G : Buf (Elt F) ((V d (cV L) (jV L)).loc cc0_scratch1))))

/-- A group of 16 pixels takes the running vectors one step on. -/
theorem group (B : S19x2048.Idx → F .f32) (G : S2048.Idx → BitVec 32) (a : Acc F) (j : Fin k0_t2_loop.trips) (b : Acc F)
    (v0 v1 v2 : DmaSems sig S_) :
    inv2 d L B G a j.val b
      ⊢ wp frame (wpE (defs₀ (F := F)) 𝒱₀ (V d (cV L) (jV L)) none) Set.univ
          (k0_t2_body L xV (Memref.isWhole_whole _) yV (Memref.isWhole_whole _) oV (Memref.isWhole_whole _)
            bV (Memref.isWhole_whole _) gV (Memref.isWhole_whole _) aV (Memref.isWhole_whole _) v0 v1 v2 j b)
          (inv2 d L B G a (j.val + 1)) := by
  unfold inv2
  iintro ⟨%hb, HB, HG⟩
  subst hb
  unfold k0_t2_body
  sl_exec
  sl_step
  isplitr
  · ipureintro
    rw [acc2_succ]
    rfl
  isplitl [HB]
  · iexact HB
  iexact HG

end Inner

/-! ## One block -/

/-- Block `t` of the task's logits: 19 rows of 2048 pixels of one image. -/
def blkX (X : S8x19x262144.Idx → F .f32) (L : grid0.Coords) (t : Fin k0_t1_loop.trips) : S19x2048.Idx → F .f32 :=
  View.read (Elt F) (((xV).slice (Rect.unit (s := S8x19x262144) (k0_off1 L t) S1x19x2048.size (k0_off1_inb L t)) (fun _ => rfl)).squeeze
    S19x2048 squeezes_S1x19x2048_S19x2048).view X

/-- Block `t` of the task's labels. -/
def blkY (Y : S2097152.Idx → BitVec 32) (L : grid0.Coords) (t : Fin k0_t1_loop.trips) : S2048.Idx → BitVec 32 :=
  View.read (Elt F) ((yV).slice (Rect.unit (s := S2097152) (k0_off2 L t) S2048.size (k0_off2_inb L t)) (fun _ => rfl)).view Y

/-- What block `t` makes of the running vectors. -/
def trip1 (X : S8x19x262144.Idx → F .f32) (Y : S2097152.Idx → BitVec 32) (L : grid0.Coords) (t : Fin k0_t1_loop.trips) (a : Acc F) : Acc F :=
  acc2 (blkX X L t) (blkY (F := F) Y L t) a k0_t2_loop.trips

/-- The running vectors after the first `n` blocks, from zero. -/
def acc1 (X : S8x19x262144.Idx → F .f32) (Y : S2097152.Idx → BitVec 32) (L : grid0.Coords) : ℕ → Acc F
  | 0 => (k0_pay5, k0_pay5, k0_pay5)
  | n + 1 => if h : n < k0_t1_loop.trips then trip1 X Y L ⟨n, h⟩ (acc1 X Y L n) else acc1 X Y L n

/-- One block more. -/
theorem acc1_succ (X : S8x19x262144.Idx → F .f32) (Y : S2097152.Idx → BitVec 32) (L : grid0.Coords) (t : Fin k0_t1_loop.trips) :
    acc1 X Y L (t.val + 1) = trip1 X Y L t (acc1 X Y L t.val) := by
  rw [acc1, dif_pos t.isLt]

section Outer

variable (d : Dev nD) (L : grid0.Coords)

/-- Between the blocks: the inputs as they were, the two block buffers with anything in them, the two semaphores at
    zero, and the running vectors so far. -/
def inv1 (O : CellTallies nD τ sig (HIx 1)) (W : Waits sig (HIx 1)) (qX qY : PosShare TreeShare)
    (X : S8x19x262144.Idx → F .f32) (Y : S2097152.Idx → BitVec 32) (n : Nat) (b : Acc F) : sProp 𝕄 :=
  iprop(⌜b = acc1 X Y L n⌝
    ∗ Transfers.MayWaits (V d (cV L) (jV L)) (default : HIx 1) O
    ∗ ((xV).view.loc (V d (cV L) (jV L)) ↦{qX} (X : Buf (Elt F) ((V d (cV L) (jV L)).loc main_v0_scv)))
    ∗ ((yV).view.loc (V d (cV L) (jV L)) ↦{qY} (Y : Buf (Elt F) ((V d (cV L) (jV L)).loc main_v1_scv)))
    ∗ (∃ B : Buf (Elt F) ((V d (cV L) (jV L)).loc cc0_scratch0), (bV).view.loc (V d (cV L) (jV L)) ↦{fullShare} B)
    ∗ (∃ G : Buf (Elt F) ((V d (cV L) (jV L)).loc cc0_scratch1), (gV).view.loc (V d (cV L) (jV L)) ↦{fullShare} G)
    ∗ semVal (V d (cV L) (jV L), SemLoc.dma cc0_scoped0.sem) 0
    ∗ semVal (V d (cV L) (jV L), SemLoc.dma cc0_scoped1.sem) 0
    ∗ ∃ W', ⌜∀ p ∈ W', p ∈ W ∨ p.2 = none⌝ ∗ owes (V d (cV L) (jV L)) O W')

/-- A block of 2048 pixels takes the running vectors one step on. -/
theorem block (O : CellTallies nD τ sig (HIx 1)) (W : Waits sig (HIx 1)) (qX qY : PosShare TreeShare)
    (X : S8x19x262144.Idx → F .f32) (Y : S2097152.Idx → BitVec 32) (t : Fin k0_t1_loop.trips) (b : Acc F) (v2 : DmaSems sig S_) :
    inv1 d L O W qX qY X Y t.val b
      ⊢ wp frame (wpE (defs₀ (F := F)) 𝒱₀ (V d (cV L) (jV L)) none) Set.univ
          (k0_t1_body L xV (Memref.isWhole_whole _) yV (Memref.isWhole_whole _) oV (Memref.isWhole_whole _)
            bV (Memref.isWhole_whole _) gV (Memref.isWhole_whole _) aV (Memref.isWhole_whole _) cc0_scoped0 cc0_scoped1 v2 t b)
          (inv1 d L O W qX qY X Y (t.val + 1)) := by
  unfold inv1
  iintro ⟨%hb, Hmw, HX, HY, ⟨%B, HB⟩, ⟨%G, HG⟩, HsA, HsB, ⟨%W', %hW', HO⟩⟩
  subst hb
  unfold k0_t1_body
  sl_exec (disch := exact View.amount_pos _ _ (show 0 < S19x2048.numel by decide))
  have eB : View.write (Elt F) (Memref.whole cc0_scratch0).view B (block.sl.dma0 L X t) Finset.univ = blkX X L t :=
    View.write_whole_univ _ _ _
  have eG : View.write (Elt F) (Memref.whole cc0_scratch1).view G (block.sl.dma0_1 L Y t) Finset.univ = blkY (F := F) Y L t :=
    View.write_whole_univ _ _ _
  rw [eB, eG]
  sl_for (inv2 d L (blkX X L t) (blkY (F := F) Y L t) (acc1 X Y L t.val)) $$ [HB HG]
  case region =>
    intro j b
    exact group d L _ _ _ j b _ _ _
  · unfold inv2
    isplitr
    · ipureintro
      rfl
    isplitl [HB]
    · iexact HB
    iexact HG
  iintro %b HI
  obtain ⟨b1, b2, b3⟩ := b
  unfold inv2
  icases HI with ⟨%hb, HB, HG⟩
  sl_exec
  sl_step
  isplitr
  · ipureintro
    rw [acc1_succ]
    exact hb
  isplitl [Hmw]
  · iexact Hmw
  isplitl [HX]
  · iexact HX
  isplitl [HY]
  · iexact HY
  isplitl [HB]
  · iexists _
    iexact HB
  isplitl [HG]
  · iexists _
    iexact HG
  isplitl [HsA]
  · iexact HsA
  isplitl [HsB]
  · iexact HsB
  iexists _
  isplitr
  rotate_left
  · iexact HO
  ipureintro
  intro p hp
  rcases Finset.mem_insert.mp hp with h | hp
  · exact Or.inr (h ▸ rfl)
  rcases Finset.mem_insert.mp hp with h | hp
  · exact Or.inr (h ▸ rfl)
  exact hW' p hp

end Outer

/-! ## The task's row of the output -/

/-- The output's rows divide evenly among 32 tasks. -/
theorem odiv : 32 ∣ S32x3x16.size 0 := ⟨1, rfl⟩
/-- Task `w`'s row of the output. -/
abbrev orow (w : Fin 32) : Rect S32x3x16 := Rect.part (s := S32x3x16) (a₀ := 0) odiv w
/-- Its indices. -/
abbrev oRowSet (w : Fin 32) : Finset S32x3x16.Idx := ((oV).view.slice (orow w)).set

/-- The task's number: twice its subcore's and its core's. -/
def wL (L : grid0.Coords) : Fin 32 :=
  ⟨2 * (L 1).val + (L 0).val, by
    have h0 : (L 0).val < 2 := (L 0).isLt
    have h1 : (L 1).val < 16 := (L 1).isLt
    omega⟩

/-- The coordinates of task `w`. -/
def coordW (w : Fin 32) : grid0.Coords
  | 0 => (⟨w.val % 2, Nat.mod_lt _ (by decide)⟩ : Fin 2)
  | 1 => (⟨w.val / 2, by omega⟩ : Fin 16)

/-- The task's number gives back its coordinates. -/
theorem coordW_wL (L : grid0.Coords) : coordW (wL L) = L := by
  have h0 : (L 0).val < 2 := (L 0).isLt
  have h1 : (L 1).val < 16 := (L 1).isLt
  funext a
  match a with
  | 0 => exact Fin.ext (show (2 * (L 1).val + (L 0).val) % 2 = (L 0).val by omega)
  | 1 => exact Fin.ext (show (2 * (L 1).val + (L 0).val) / 2 = (L 1).val by omega)

/-- The row as the kernel slices it. -/
abbrev orowK (L : grid0.Coords) : Rect S32x3x16 := Rect.unit (s := S32x3x16) (k0_off23 L) S1x3x16.size (k0_off23_inb L)
/-- The buffer the kernel copies its result to. -/
abbrev oRowK (L : grid0.Coords) : Memref sig .scVector .hbm S3x16 .f32 :=
  ((oV).slice (orowK L) (fun _ => rfl)).squeeze S3x16 squeezes_S1x3x16_S3x16

/-- The kernel slices its own task's row. -/
theorem orowK_eq (L : grid0.Coords) : orowK L = orow (wL L) := by
  unfold orowK orow Rect.part Rect.block
  congr 1 <;> funext a
  · rw [k0_off23_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

/-- The kernel's copy fills its own task's row. -/
theorem set_oRowK (L : grid0.Coords) : (oRowK L).view.set = oRowSet (wL L) := by
  show (((oV).view.slice (orowK L)).reshape S3x16 squeezes_S1x3x16_S3x16.numel_eq).set = ((oV).view.slice (orow (wL L))).set
  rw [View.set_reshape]
  exact orowK_eq L ▸ rfl

section Task

variable (d : Dev nD) (L : grid0.Coords)

/-- The semaphore of the logits' copies. -/
abbrev cellA : GSem nD τ sig := (V d (cV L) (jV L), .dma cc0_scoped0.sem)
/-- The semaphore of the labels' copies. -/
abbrev cellB : GSem nD τ sig := (V d (cV L) (jV L), .dma cc0_scoped1.sem)
/-- The semaphore of the result's copy. -/
abbrev cellC : GSem nD τ sig := (V d (cV L) (jV L), .dma cc0_scoped2.sem)

/-- The subcore's own semaphores at zero: the kernel's three, and the others. -/
theorem ownSems0_split :
    (ownSems0 (V d (cV L) (jV L)) : sProp 𝕄)
      = iprop(semVal (cellA d L) 0 ∗ semVal (cellB d L) 0 ∗ semVal (cellC d L) 0
          ∗ bigSep ((((ownCells (V d (cV L) (jV L))).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scoped2.sem : SemLoc sig).isScoped .scVector = true; decide⟩⟩⟩)]

/-- The subcore's own buffers: the kernel's three scratch buffers at some contents, and the others. -/
theorem ownBufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

/-- Where the logits lie. -/
abbrev xLoc (d : Dev nD) : Loc nD τ sig := (SparseCore.T d).loc main_v0
/-- Where the labels lie. -/
abbrev yLoc (d : Dev nD) : Loc nD τ sig := (SparseCore.T d).loc main_v1
/-- Where the output lies. -/
abbrev oLoc (d : Dev nD) : Loc nD τ sig := (SparseCore.T d).loc main_v2

/-- Task `w`'s three vectors, one under the other. -/
def rowVal (X : S8x19x262144.Idx → F .f32) (Y : S2097152.Idx → BitVec 32) (L : grid0.Coords) : S3x16.Idx → F .f32 := fun j =>
  if (j 0).val = 0 then (acc1 X Y L k0_t1_loop.trips).1 (ix1 (j 1))
  else if (j 0).val = 1 then (acc1 X Y L k0_t1_loop.trips).2.1 (ix1 (j 1))
  else (acc1 X Y L k0_t1_loop.trips).2.2 (ix1 (j 1))

/-- The output: row `w` is task `w`'s three vectors. -/
def outVal (X : S8x19x262144.Idx → F .f32) (Y : S2097152.Idx → BitVec 32) : S32x3x16.Idx → F .f32 := fun i =>
  rowVal X Y (coordW (i 0)) (ix2 (i 1) (i 2))

/-- The output at task `L`'s row. -/
theorem outVal_row (X : S8x19x262144.Idx → F .f32) (Y : S2097152.Idx → BitVec 32) (L : grid0.Coords) (r : Fin 3) (l : Fin 16) :
    outVal X Y (ix3 (wL L) r l) = rowVal X Y L (ix2 r l) := by
  show rowVal X Y (coordW (wL L)) (ix2 r l) = _
  rw [coordW_wL]

/-- The scratch buffer after its three rows are stored. -/
theorem rows_apply (A : S3x16.Idx → F .f32) (b1 b2 b3 : FVec F S16 .f32) (j : S3x16.Idx) :
    View.read (Elt F) (aV).view ((aV).view.writes (Elt F) A
        [⟨Rect.unit (s := S3x16) ![2, 0] S1x16.size inb_S3x16_S1x16_2_0, k0_pay1 b3⟩,
          ⟨Rect.unit (s := S3x16) ![1, 0] S1x16.size inb_S3x16_S1x16_1_0, k0_pay12 b2⟩,
          ⟨Rect.unit (s := S3x16) ![0, 0] S1x16.size inb_S3x16_S1x16_0_0, k0_pay11 b1⟩]) j
      = if (j 0).val = 0 then b1 (ix1 (j 1)) else if (j 0).val = 1 then b2 (ix1 (j 1)) else b3 (ix1 (j 1)) := by
  have e1 : ∀ (b : FVec F S16 .f32) (x : S1x16.Idx), k0_pay1 b x = b (ix1 (x 1)) := fun b x => by pointwise [k0_pay1]
  have e12 : ∀ (b : FVec F S16 .f32) (x : S1x16.Idx), k0_pay12 b x = b (ix1 (x 1)) := fun b x => by pointwise [k0_pay12]
  have e11 : ∀ (b : FVec F S16 .f32) (x : S1x16.Idx), k0_pay11 b x = b (ix1 (x 1)) := fun b x => by pointwise [k0_pay11]
  have hj : (j 0).val < 3 := (j 0).isLt
  by_cases h2 : (j 0).val = 2
  · rw [if_neg (by omega), if_neg (by omega)]
    exact (View.read_writes_cons_rows_of_mem (size := S1x16.size) (o := 2) _ _ _ _ _ j (ix2 (0 : Fin 1) (j 1) : S1x16.Idx) rfl (show (j 0).val = 2 + 0 by omega) rfl).trans (e1 _ _)
  rw [View.read_writes_cons_rows_of_not_mem (o := 2) (W := 1) _ _ _ _ _ j rfl rfl (by omega)]
  by_cases h1 : (j 0).val = 1
  · rw [if_neg (by omega), if_pos h1]
    exact (View.read_writes_cons_rows_of_mem (size := S1x16.size) (o := 1) _ _ _ _ _ j (ix2 (0 : Fin 1) (j 1) : S1x16.Idx) rfl (show (j 0).val = 1 + 0 by omega) rfl).trans (e12 _ _)
  rw [View.read_writes_cons_rows_of_not_mem (o := 1) (W := 1) _ _ _ _ _ j rfl rfl (by omega)]
  rw [if_pos (by omega)]
  exact (View.read_writes_cons_rows_of_mem (size := S1x16.size) (o := 0) _ _ _ _ _ j (ix2 (0 : Fin 1) (j 1) : S1x16.Idx) rfl (show (j 0).val = 0 + 0 by omega) rfl).trans (e11 _ _)

/-- Where the task's row, squeezed to three vectors, lies in the output. -/
theorem oRowK_emb (L : grid0.Coords) (j : S3x16.Idx) :
    (oRowK L).view.emb j = (ix3 (wL L) (j 0) (j 1) : S32x3x16.Idx) := by
  show (orowK L).emb (Shape.reshapeEquiv squeezes_S1x3x16_S3x16.numel_eq j) = _
  have e : Shape.reshapeEquiv squeezes_S1x3x16_S3x16.numel_eq j = (Fin.cons ⟨0, Nat.one_pos⟩ j : S1x3x16.Idx) :=
    Shape.reshapeEquiv_cons_one _ j
  rw [e]
  funext a
  apply Fin.ext
  show k0_off23 L a + 1 * ((Fin.cons ⟨0, Nat.one_pos⟩ j : S1x3x16.Idx) a).val = _
  rw [k0_off23_eq]
  match a with
  | 0 => show 2 * (L 1).val + (L 0).val + 1 * 0 = 2 * (L 1).val + (L 0).val; omega
  | 1 => show 0 + 1 * (j 0).val = (j 0).val; omega
  | 2 => show 0 + 1 * (j 1).val = (j 1).val; omega

/-- What a task is handed, and hands back: a share of both inputs, and its row of the output at `Z`. -/
abbrev task (d : Dev nD) (w : Fin 32) (qX qY : PosShare TreeShare) (X : Buf (Elt F) (xLoc d)) (Y : Buf (Elt F) (yLoc d))
    (Z : Buf (Elt F) (oLoc d)) : sProp 𝕄 :=
  iprop((xLoc d ↦{qX} X) ∗ (yLoc d ↦{qY} Y) ∗ oLoc d ↦[oRowSet w]{fullShare} Z)

set_option maxHeartbeats 4000000 in
theorem tile_body (hF : (K (F := F)).Facts) (O : CellTallies nD τ sig (HIx 1)) (W : Waits sig (HIx 1)) (hO : ∀ g, O g none = 0)
    (qX qY : PosShare TreeShare) (X : S8x19x262144.Idx → F .f32) (Y : S2097152.Idx → BitVec 32) (Z : Buf (Elt F) (oLoc d)) :
    iprop(levAts (K (F := F)).L (K (F := F)).lev ∗ emp
        ∗ task d (wL L) qX qY X Y Z
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__objectosphere_partials L xV (Memref.isWhole_whole _) yV (Memref.isWhole_whole _) oV (Memref.isWhole_whole _)
            bV (Memref.isWhole_whole _) gV (Memref.isWhole_whole _) aV (Memref.isWhole_whole _) cc0_scoped0 cc0_scoped1 cc0_scoped2)
          fun _ => iprop(task d (wL L) qX qY X Y (outVal X Y)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__objectosphere_partials_eq_skeleton]
  unfold cc0__objectosphere_partials_skel
  rw [(K (F := F)).scopedBufs_V hF d (cV L) (jV L), SparseCore.Cfg.scopedSems0_V (Val := Elt F) d (cV L) (jV L), ownSems0_split, ownBufs_split]
  iintro ⟨#Hlv, -, ⟨HX, HY, HO⟩, ⟨⟨%B, HB⟩, ⟨%G, HG⟩, ⟨%A, HA⟩, Hbufs⟩, ⟨HsA, HsB, HsC, Hsems⟩, Hw⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HX' := (Entails.of_eq (show (xLoc d ↦{qX} (X : Buf (Elt F) (xLoc d)) : sProp 𝕄)
    = ((xV).view.loc (V d (cV L) (jV L)) ↦{qX} (X : Buf (Elt F) (xLoc d))) from rfl)) $$ HX
  ihave HY' := (Entails.of_eq (show (yLoc d ↦{qY} (Y : Buf (Elt F) (yLoc d)) : sProp 𝕄)
    = ((yV).view.loc (V d (cV L) (jV L)) ↦{qY} (Y : Buf (Elt F) (yLoc d))) from rfl)) $$ HY
  ihave HO' := (Entails.of_eq (show (oLoc d ↦[oRowSet (wL L)]{fullShare} Z : sProp 𝕄)
    = ((oRowK L).view.loc (V d (cV L) (jV L)) ↦[(oRowK L).view.set]{fullShare} Z) by rw [set_oRowK])) $$ HO
  ihave HB' := (Entails.of_eq (show ((V d (cV L) (jV L)).loc cc0_scratch0 ↦{fullShare} B : sProp 𝕄)
    = ((bV).view.loc (V d (cV L) (jV L)) ↦{fullShare} B) from rfl)) $$ HB
  ihave HG' := (Entails.of_eq (show ((V d (cV L) (jV L)).loc cc0_scratch1 ↦{fullShare} G : sProp 𝕄)
    = ((gV).view.loc (V d (cV L) (jV L)) ↦{fullShare} G) from rfl)) $$ HG
  ihave HA' := (Entails.of_eq (show ((V d (cV L) (jV L)).loc cc0_scratch2 ↦{fullShare} A : sProp 𝕄)
    = ((aV).view.loc (V d (cV L) (jV L)) ↦{fullShare} A) from rfl)) $$ HA
  sl_exec
  sl_for (inv1 d L O W qX qY X Y) $$ [Hmw HX' HY' HB' HG' HsA HsB Hw]
  case region =>
    intro t b
    exact block d L O W qX qY X Y t b _
  · unfold inv1
    isplitr
    · ipureintro
      rfl
    isplitl []
    · iexact Hmw
    isplitl [HX']
    · iexact HX'
    isplitl [HY']
    · iexact HY'
    isplitl [HB']
    · iexists _
      iexact HB'
    isplitl [HG']
    · iexists _
      iexact HG'
    isplitl [HsA]
    · iexact HsA
    isplitl [HsB]
    · iexact HsB
    iexists W
    isplitr
    · ipureintro
      exact fun p hp => Or.inl hp
    iexact Hw
  iintro %b HI
  obtain ⟨b1, b2, b3⟩ := b
  unfold inv1
  icases HI with ⟨%hb, -, HX, HY, ⟨%B', HB⟩, ⟨%G', HG⟩, HsA, HsB, ⟨%W', %hW', Hw⟩⟩
  sl_exec
  have e : ∀ i ∈ (oRowK L).view.set, (oRowK L).view.writes (Elt F) Z [⟨Rect.whole S3x16, tile_body.sl.dma6 d L A b1 b2 b3⟩] i = outVal X Y i := by
    intro i hi
    obtain ⟨j, -, rfl⟩ := Finset.mem_map.mp hi
    have h := View.read_writes_whole (oRowK L).view Z (tile_body.sl.dma6 d L A b1 b2 b3)
    have h' := congrFun h j
    rw [View.read_apply, cast_eq] at h'
    refine h'.trans ?_
    delta tile_body.sl.dma6
    delta tile_body.sl.HA'_3
    refine (rows_apply A b1 b2 b3 j).trans ?_
    rw [oRowK_emb]
    refine Eq.trans ?_ (outVal_row X Y L (j 0) (j 1)).symm
    have hb' : acc1 X Y L k0_t1_loop.trips = (b1, b2, b3) := hb.symm
    unfold rowVal
    rw [hb']
    rfl
  ihave HO := (Entails.of_eq (show ((oRowK L).view.loc (V d (cV L) (jV L)) ↦[(oRowK L).view.set]{fullShare}
        (oRowK L).view.writes (Elt F) Z [⟨Rect.whole S3x16, tile_body.sl.dma6 d L A b1 b2 b3⟩] : sProp 𝕄)
      = oLoc d ↦[oRowSet (wL L)]{fullShare} (outVal X Y : Buf (Elt F) (oLoc d)) by
    rw [pointsTo_congr e, set_oRowK])) $$ HO'
  sl_step
  isplitl [HX HY HO]
  · isplitl [HX]
    · iexact HX
    isplitl [HY]
    · iexact HY
    iexact HO
  isplitl [HB HG HA' Hbufs]
  · isplitl [HB]
    · iexists _
      iexact HB
    isplitl [HG]
    · iexists _
      iexact HG
    isplitl [HA']
    · iexists _
      iexact HA'
    iexact Hbufs
  isplitl [HsA HsB HsC Hsems]
  · isplitl [HsA]
    · iexact HsA
    isplitl [HsB]
    · iexact HsB
    isplitl [HsC]
    · iexact HsC
    iexact Hsems
  iexists _
  isplitr
  rotate_left
  · iexact Hw
  ipureintro
  intro p hp
  rcases Finset.mem_insert.mp hp with h | hp
  · exact Or.inr (h ▸ rfl)
  exact hW' p hp

end Task

end Cert.KernelIdeal.Run
-- ==== Proof.TileValue.lean ====
/-
  A task's three vectors over the extended reals: lane `l` is a sum, over the task's blocks and over each block's groups
  of 16 pixels, of the pixel in lane `l`.
-/
module

public import proofs.«01_k».proof.Proof.Tile
public import Idealize.ShloMosaic.Lib.Pointwise
public import Idealize.ShloMosaic.Lib.IdealHost

@[expose] public section

noncomputable section

namespace Cert.KernelIdeal.Run

open Cert.KernelIdeal Cert.KernelIdeal.Gen
open Idealize.ShloMosaic

/-! ## One pixel -/

/-- The squared length of the 19 logits `v`. -/
def nrm (v : Fin 19 → EReal) : EReal := ∑ c, v c * v c

/-- What a pixel with logits `v` and label `y` adds to the three sums. -/
def pixU (v : Fin 19 → EReal) (y : BitVec 32) : EReal := if y = 0#32 then nrm v else 0
/-- What it adds to the sum over the known pixels. -/
def pixK (v : Fin 19 → EReal) (y : BitVec 32) : EReal := if y = 0#32 then 0 else max (1 - nrm v) 0
/-- What it adds to the count of the unlabelled pixels. -/
def pixC (y : BitVec 32) : EReal := if y = 0#32 then 1 else 0

/-! ## One group -/

/-- A row of sixteen read as a vector. -/
theorem cast_lane (x : Vec Ideal S1x16 .f32) (l : Fin 16) : shapeCast S16 x shapeCasts_S1x16_S16 (ix1 l) = x (ix2 (0 : Fin 1) l) := by
  pointwise

/-- A vector read as itself. -/
theorem cast_lab (x : Vec Ideal S16 .i32) (l : Fin 16) : shapeCast S16 x shapeCasts_S16_S16 (ix1 l) = x (ix1 l) := by
  pointwise

/-- A lane of sixteen loaded logits. -/
theorem ld_lane (B : S19x2048.Idx → Ideal .f32) (off : Fin 2 → Nat) (inb) (c : Fin 19) (o : Nat) (l : Fin 16) (ho : o + l.val < 2048)
    (h : off = ![c.val, o]) : ld B off inb (ix2 (0 : Fin 1) l) = B (ix2 c ⟨o + l.val, ho⟩) := by
  subst h
  refine congrArg B (funext fun a => Fin.ext ?_)
  match a with
  | 0 => show c.val + 1 * 0 = c.val; omega
  | 1 => show o + 1 * l.val = o + l.val; omega

/-- A lane of sixteen loaded labels. -/
theorem ldG_lane (G : S2048.Idx → BitVec 32) (off : Fin 1 → Nat) (inb) (o : Nat) (l : Fin 16) (ho : o + l.val < 2048)
    (h : off = ![o]) : ldG (F := Ideal) G off inb (ix1 l) = G (ix1 ⟨o + l.val, ho⟩) := by
  subst h
  refine congrArg G (funext fun a => Fin.ext ?_)
  match a with
  | 0 => show o + 1 * l.val = o + l.val; omega

/-- A group's lanes lie in the block. -/
theorem lane_lt (j : Fin k0_t2_loop.trips) (l : Fin 16) : 16 * j.val + l.val < 2048 := by
  have h : j.val < 128 := j.isLt
  omega

/-- The pixel of a block in lane `l` of group `j`. -/
abbrev lane (j : Fin k0_t2_loop.trips) (l : Fin 16) : Fin 2048 := ⟨16 * j.val + l.val, lane_lt j l⟩

/-- Lane `l` of a group's nineteen squares added up is its pixel's squared length. -/
theorem pay6_lane (B : S19x2048.Idx → Ideal .f32) (j : Fin k0_t2_loop.trips) (l : Fin 16) :
    k0_pay6 (k0_pay3 (k0_pay2 k0_pay5 (ld B (k0_off3 j) (k0_off3_inb j)) (ld B (k0_off4 j) (k0_off4_inb j)) (ld B (k0_off5 j) (k0_off5_inb j))
        (ld B (k0_off6 j) (k0_off6_inb j)) (ld B (k0_off7 j) (k0_off7_inb j)) (ld B (k0_off8 j) (k0_off8_inb j)) (ld B (k0_off9 j) (k0_off9_inb j))
        (ld B (k0_off10 j) (k0_off10_inb j))) (ld B (k0_off11 j) (k0_off11_inb j)) (ld B (k0_off12 j) (k0_off12_inb j)) (ld B (k0_off13 j) (k0_off13_inb j))
        (ld B (k0_off14 j) (k0_off14_inb j)) (ld B (k0_off15 j) (k0_off15_inb j)) (ld B (k0_off16 j) (k0_off16_inb j)) (ld B (k0_off17 j) (k0_off17_inb j))
        (ld B (k0_off18 j) (k0_off18_inb j))) (k0_pay4 (ld B (k0_off19 j) (k0_off19_inb j))) (ld B (k0_off20 j) (k0_off20_inb j)) (ld B (k0_off21 j) (k0_off21_inb j)) (ix1 l)
      = nrm fun c => B (ix2 c (lane j l)) := by
  have e (c : Fin 19) (off inb) (h : off = ![c.val, 16 * j.val]) :
      shapeCast S16 (ld B off inb) shapeCasts_S1x16_S16 (ix1 l) = B (ix2 c (lane j l)) :=
    (cast_lane _ l).trans (ld_lane B off inb c _ l (lane_lt j l) h)
  simp only [k0_pay6, k0_pay5, k0_pay4, k0_pay3, k0_pay2, addf, mulf, broadcast, Ideal.addf_def, Ideal.mulf_def,
    e 0 _ _ (k0_off3_eq j), e 1 _ _ (k0_off4_eq j), e 2 _ _ (k0_off5_eq j), e 3 _ _ (k0_off6_eq j), e 4 _ _ (k0_off7_eq j),
    e 5 _ _ (k0_off8_eq j), e 6 _ _ (k0_off9_eq j), e 7 _ _ (k0_off10_eq j), e 8 _ _ (k0_off11_eq j), e 9 _ _ (k0_off12_eq j),
    e 10 _ _ (k0_off13_eq j), e 11 _ _ (k0_off14_eq j), e 12 _ _ (k0_off15_eq j), e 13 _ _ (k0_off16_eq j), e 14 _ _ (k0_off17_eq j),
    e 15 _ _ (k0_off18_eq j), e 16 _ _ (k0_off19_eq j), e 17 _ _ (k0_off20_eq j), e 18 _ _ (k0_off21_eq j)]
  rw [show (FloatOps.ofBits .f32 0x00000000#32 : Ideal .f32) = 0 from Ideal.ofBits_zero_f32]
  unfold nrm
  simp only [Fin.sum_univ_castSucc, Fin.sum_univ_zero]
  rfl

/-- Lane `l` of a group's test of the labels is the test of its pixel's. -/
theorem pay7_lane (G : S2048.Idx → BitVec 32) (j : Fin k0_t2_loop.trips) (l : Fin 16) :
    k0_pay7 (F := Ideal) (ldG (F := Ideal) G (k0_off22 j) (k0_off22_inb j)) (ix1 l) = IntOp.cmpi .eq (G (ix1 (lane j l))) 0#32 :=
  congrArg (IntOp.cmpi .eq · 0#32) ((cast_lab _ l).trans (ldG_lane G _ _ _ l (lane_lt j l) (k0_off22_eq j)))

/-- Choosing by a word's equality with zero. -/
theorem select_eq_zero (y : BitVec 32) (a b : EReal) : Scalar.select (IntOp.cmpi .eq y 0#32) a b = if y = 0#32 then a else b := by
  by_cases h : y = 0#32
  · subst h; rfl
  · have h' : (y == 0#32) = false := beq_eq_false_iff_ne.mpr h
    simp only [Scalar.select, IntOp.cmpi, h', if_neg h]
    rfl

/-- What one group adds in lane `l` to each of the three running vectors. -/
theorem trip2_lane (B : S19x2048.Idx → Ideal .f32) (G : S2048.Idx → BitVec 32) (j : Fin k0_t2_loop.trips) (a : Acc Ideal) (l : Fin 16) :
    (trip2 B G j a).1 (ix1 l) = a.1 (ix1 l) + pixU (fun c => B (ix2 c (lane j l))) (G (ix1 (lane j l)))
    ∧ (trip2 B G j a).2.1 (ix1 l) = a.2.1 (ix1 l) + pixK (fun c => B (ix2 c (lane j l))) (G (ix1 (lane j l)))
    ∧ (trip2 B G j a).2.2 (ix1 l) = a.2.2 (ix1 l) + pixC (G (ix1 (lane j l))) := by
  have h7 := pay7_lane G j l
  have h6 := pay6_lane B j l
  refine ⟨?_, ?_, ?_⟩
  · simp only [trip2, k0_pay8, addf, select, broadcast, h7, h6, Ideal.addf_def, select_eq_zero, Scalar.ofBits, Ideal.ofBits_def, Ideal.ofBits_zero_f32]
    rfl
  · simp only [trip2, k0_pay9, addf, subf, maximumf, select, broadcast, h7, h6, Ideal.addf_def, Ideal.subf_def, Ideal.maximumf_def, select_eq_zero, Scalar.ofBits, Ideal.ofBits_def, Ideal.ofBits_zero_f32, Ideal.ofBits_one_f32]
    rfl
  · simp only [trip2, k0_pay10, addf, select, broadcast, h7, Ideal.addf_def, select_eq_zero, Scalar.ofBits, Ideal.ofBits_def, Ideal.ofBits_zero_f32, Ideal.ofBits_one_f32]
    rfl

/-! ## Sums over groups and blocks -/

/-- A reading of the running vectors that every group raises by `f` of its number is raised by the sum. -/
theorem acc2_sum (B : S19x2048.Idx → Ideal .f32) (G : S2048.Idx → BitVec 32) (a : Acc Ideal) (p : Acc Ideal → EReal) (f : ℕ → EReal)
    (h : ∀ (j : Fin k0_t2_loop.trips) (b : Acc Ideal), p (trip2 B G j b) = p b + f j.val) (n : ℕ) (hn : n ≤ k0_t2_loop.trips) :
    p (acc2 B G a n) = p a + ∑ k ∈ Finset.range n, f k := by
  induction n with
  | zero => simp [acc2]
  | succ n ih =>
    rw [acc2_succ B G a ⟨n, hn⟩, h ⟨n, hn⟩, ih (Nat.le_of_succ_le hn), Finset.sum_range_succ, add_assoc]

/-- A reading of the running vectors that starts at zero and that every block raises by `f` of its number is the sum. -/
theorem acc1_sum (X : S8x19x262144.Idx → Ideal .f32) (Y : S2097152.Idx → BitVec 32) (L : grid0.Coords) (p : Acc Ideal → EReal) (f : ℕ → EReal)
    (h0 : p (k0_pay5, k0_pay5, k0_pay5) = 0)
    (h : ∀ (t : Fin k0_t1_loop.trips) (b : Acc Ideal), p (trip1 X Y L t b) = p b + f t.val) (n : ℕ) (hn : n ≤ k0_t1_loop.trips) :
    p (acc1 X Y L n) = ∑ t ∈ Finset.range n, f t := by
  induction n with
  | zero => rw [Finset.sum_range_zero]; exact h0
  | succ n ih =>
    rw [acc1_succ X Y L ⟨n, hn⟩, h ⟨n, hn⟩, ih (Nat.le_of_succ_le hn), Finset.sum_range_succ]

/-! ## A block's pixels among all pixels -/

/-- The logits of pixel `q`, and its label, the images one after another. -/
def logitAt (X : S8x19x262144.Idx → Ideal .f32) (q : ℕ) (c : Fin 19) : EReal :=
  X (ix3 (⟨q / 262144 % 8, Nat.mod_lt _ (by decide)⟩ : Fin 8) c (⟨q % 262144, Nat.mod_lt _ (by decide)⟩ : Fin 262144))
/-- The label of pixel `q`. -/
def labelAt (Y : S2097152.Idx → BitVec 32) (q : ℕ) : BitVec 32 := Y (ix1 (⟨q % 2097152, Nat.mod_lt _ (by decide)⟩ : Fin 2097152))

/-- The number of the task at `L`. -/
abbrev wN (L : grid0.Coords) : ℕ := 2 * (L 1).val + (L 0).val

/-- There are 32 tasks. -/
theorem wN_lt (L : grid0.Coords) : wN L < 32 := by
  have h0 : (L 0).val < 2 := (L 0).isLt
  have h1 : (L 1).val < 16 := (L 1).isLt
  unfold wN
  omega

/-- Where block `t` of the logits starts: an image, and a place in it. -/
theorem off1_eq (L : grid0.Coords) (t : Fin k0_t1_loop.trips) :
    k0_off1 L t = ![wN L / 4, 0, wN L % 4 * 65536 + 2048 * t.val] := by
  have h : ∀ (w : Fin 32) (t : Fin k0_t1_loop.trips), k0_off1 (coordW w) t = ![w.val / 4, 0, w.val % 4 * 65536 + 2048 * t.val] := by
    decide +kernel
  have e := h (wL L) t
  rw [coordW_wL] at e
  exact e

/-- A task has 32 blocks. -/
theorem trips1 (t : Fin k0_t1_loop.trips) : t.val < 32 := t.isLt

/-- Pixel `k` of block `t` is pixel `65536 w + 2048 t + k` of all, `w` the task's number. -/
theorem blkX_at (X : S8x19x262144.Idx → Ideal .f32) (L : grid0.Coords) (t : Fin k0_t1_loop.trips) (c : Fin 19) (k : Fin 2048) :
    blkX X L t (ix2 c k) = logitAt X (65536 * wN L + 2048 * t.val + k.val) c := by
  have hw := wN_lt L
  have ht := trips1 t
  have e : Shape.reshapeEquiv squeezes_S1x19x2048_S19x2048.numel_eq (ix2 c k : S19x2048.Idx) = (Fin.cons ⟨0, Nat.one_pos⟩ (ix2 c k : S19x2048.Idx) : S1x19x2048.Idx) :=
    Shape.reshapeEquiv_cons_one _ _
  unfold blkX logitAt
  show X ((Rect.unit (s := S8x19x262144) (k0_off1 L t) S1x19x2048.size (k0_off1_inb L t)).emb
    (Shape.reshapeEquiv squeezes_S1x19x2048_S19x2048.numel_eq (ix2 c k : S19x2048.Idx))) = _
  rw [e]
  refine congrArg X (funext fun a => Fin.ext ?_)
  show k0_off1 L t a + 1 * ((Fin.cons ⟨0, Nat.one_pos⟩ (ix2 c k : S19x2048.Idx) : S1x19x2048.Idx) a).val = _
  rw [off1_eq]
  match a with
  | 0 => show wN L / 4 + 1 * 0 = (65536 * wN L + 2048 * t.val + k.val) / 262144 % 8; omega
  | 1 => show 0 + 1 * c.val = c.val; omega
  | 2 => show wN L % 4 * 65536 + 2048 * t.val + 1 * k.val = (65536 * wN L + 2048 * t.val + k.val) % 262144; omega

/-- The same of the labels. -/
theorem blkY_at (Y : S2097152.Idx → BitVec 32) (L : grid0.Coords) (t : Fin k0_t1_loop.trips) (k : Fin 2048) :
    blkY (F := Ideal) Y L t (ix1 k) = labelAt Y (65536 * wN L + 2048 * t.val + k.val) := by
  have hw := wN_lt L
  have ht := trips1 t
  unfold blkY labelAt
  refine congrArg Y (funext fun a => Fin.ext ?_)
  match a with
  | 0 =>
    show k0_off2 L t 0 + 1 * k.val = (65536 * wN L + 2048 * t.val + k.val) % 2097152
    rw [k0_off2_eq]
    show 131072 * (L 1).val + 65536 * (L 0).val + 2048 * t.val + 1 * k.val = _
    unfold wN at hw ⊢
    omega

/-! ## A task's lanes -/

/-- What pixel `q` adds to each of the three sums. -/
def addU (X : S8x19x262144.Idx → Ideal .f32) (Y : S2097152.Idx → BitVec 32) (q : ℕ) : EReal := pixU (logitAt X q) (labelAt Y q)
/-- What it adds to the second sum. -/
def addK (X : S8x19x262144.Idx → Ideal .f32) (Y : S2097152.Idx → BitVec 32) (q : ℕ) : EReal := pixK (logitAt X q) (labelAt Y q)
/-- What it adds to the count. -/
def addC (Y : S2097152.Idx → BitVec 32) (q : ℕ) : EReal := pixC (labelAt Y q)

/-- A reading of the running vectors that starts at zero, and to which group `j` of a block adds `f` of its pixel in lane
    `l`, ends at the sum over the task's pixels in that lane. -/
theorem lane_sum (X : S8x19x262144.Idx → Ideal .f32) (Y : S2097152.Idx → BitVec 32) (L : grid0.Coords) (l : Fin 16)
    (p : Acc Ideal → EReal) (f : ℕ → EReal) (h0 : p (k0_pay5, k0_pay5, k0_pay5) = 0)
    (h : ∀ (t : Fin k0_t1_loop.trips) (j : Fin k0_t2_loop.trips) (b : Acc Ideal),
      p (trip2 (blkX X L t) (blkY (F := Ideal) Y L t) j b) = p b + f (65536 * wN L + 2048 * t.val + (lane j l).val)) :
    p (acc1 X Y L k0_t1_loop.trips)
      = ∑ t ∈ Finset.range 32, ∑ j ∈ Finset.range 128, f (65536 * wN L + 2048 * t + (16 * j + l.val)) :=
  acc1_sum X Y L p (fun t => ∑ j ∈ Finset.range 128, f (65536 * wN L + 2048 * t + (16 * j + l.val))) h0
    (fun t b => acc2_sum _ _ b p (fun j => f (65536 * wN L + 2048 * t.val + (16 * j + l.val))) (h t) _ le_rfl) _ le_rfl

/-- Each row of a task's output, at lane `l`, is the sum over the task's pixels in that lane. -/
theorem row_lane (X : S8x19x262144.Idx → Ideal .f32) (Y : S2097152.Idx → BitVec 32) (L : grid0.Coords) (l : Fin 16) :
    rowVal X Y L (ix2 (0 : Fin 3) l) = ∑ t ∈ Finset.range 32, ∑ j ∈ Finset.range 128, addU X Y (65536 * wN L + 2048 * t + (16 * j + l.val))
    ∧ rowVal X Y L (ix2 (1 : Fin 3) l) = ∑ t ∈ Finset.range 32, ∑ j ∈ Finset.range 128, addK X Y (65536 * wN L + 2048 * t + (16 * j + l.val))
    ∧ rowVal X Y L (ix2 (2 : Fin 3) l) = ∑ t ∈ Finset.range 32, ∑ j ∈ Finset.range 128, addC Y (65536 * wN L + 2048 * t + (16 * j + l.val)) := by
  have z : (k0_pay5 (F := Ideal)) (ix1 l) = 0 := Ideal.ofBits_zero_f32
  refine ⟨lane_sum X Y L l (fun b => b.1 (ix1 l)) (addU X Y) z fun t j b => ?_,
    lane_sum X Y L l (fun b => b.2.1 (ix1 l)) (addK X Y) z fun t j b => ?_,
    lane_sum X Y L l (fun b => b.2.2 (ix1 l)) (addC Y) z fun t j b => ?_⟩
  · refine ((trip2_lane _ _ j b l).1).trans ?_
    simp only [blkX_at, blkY_at]
    rfl
  · refine ((trip2_lane _ _ j b l).2.1).trans ?_
    simp only [blkX_at, blkY_at]
    rfl
  · refine ((trip2_lane _ _ j b l).2.2).trans ?_
    simp only [blkY_at]
    rfl

/-! ## All lanes of all tasks -/

/-- A sum over `a` runs of `b` is a sum over `a * b`. -/
theorem sum_runs (f : ℕ → EReal) (a b : ℕ) :
    ∑ i ∈ Finset.range a, ∑ j ∈ Finset.range b, f (b * i + j) = ∑ k ∈ Finset.range (b * a), f k := by
  induction a with
  | zero => simp
  | succ a ih => rw [Finset.sum_range_succ, ih, Nat.mul_succ, Finset.sum_range_add]

/-- The lanes of all the tasks take every pixel once. -/
theorem sum_lanes (f : ℕ → EReal) :
    ∑ w ∈ Finset.range 32, ∑ l ∈ Finset.range 16, ∑ t ∈ Finset.range 32, ∑ j ∈ Finset.range 128, f (65536 * w + 2048 * t + (16 * j + l))
      = ∑ q ∈ Finset.range 2097152, f q := by
  have e1 (w : ℕ) : ∑ l ∈ Finset.range 16, ∑ t ∈ Finset.range 32, ∑ j ∈ Finset.range 128, f (65536 * w + 2048 * t + (16 * j + l))
      = ∑ k ∈ Finset.range 65536, f (65536 * w + k) := by
    rw [Finset.sum_comm, ← sum_runs (fun k => f (65536 * w + k)) 32 2048]
    refine Finset.sum_congr rfl fun t _ => ?_
    rw [Finset.sum_comm]
    refine Eq.trans ?_ (sum_runs (fun k => f (65536 * w + (2048 * t + k))) 128 16)
    simp only [add_assoc]
  simp only [e1]
  exact sum_runs f 32 65536

end Cert.KernelIdeal.Run
-- ==== Proof.Launch.lean ====
/-
  The whole program's run: the host's reshapes, the 32 tasks side by side, the host's reading of the 32 rows; every
  device ends with its two arguments as they were and the result at what the host's operations make of the output.
-/
module

public import proofs.«01_k».proof.Proof.Tile
public import Idealize.ShloMosaic.Lib.ShareLeaves
public import Idealize.ShloMosaic.Lib.StableHlo.RunHlo

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.ShloMosaic.StableHlo (held after launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S8x19x262144 EltTy.f32)
local notation "yV" => (Memref.whole Cert.KernelIdeal.main_v1_scv : Memref Cert.KernelIdeal.sig Kind.scVector Space.hbm Cert.KernelIdeal.S2097152 EltTy.i32)
local notation "oV" => (Memref.whole Cert.KernelIdeal.main_v2_scv : Memref Cert.KernelIdeal.sig Kind.scVector Space.hbm Cert.KernelIdeal.S32x3x16 EltTy.f32)
local notation "bV" => (Memref.whole Cert.KernelIdeal.cc0_scratch0 : Memref Cert.KernelIdeal.sig Kind.scVector Space.vmem Cert.KernelIdeal.S19x2048 EltTy.f32)
local notation "gV" => (Memref.whole Cert.KernelIdeal.cc0_scratch1 : Memref Cert.KernelIdeal.sig Kind.scVector Space.vmem Cert.KernelIdeal.S2048 EltTy.i32)
local notation "aV" => (Memref.whole Cert.KernelIdeal.cc0_scratch2 : Memref Cert.KernelIdeal.sig Kind.scVector Space.vmem Cert.KernelIdeal.S3x16 EltTy.f32)

variable [FloatOps F]

/-! ## The host's two straight lines -/

/-- The operations before the tasks: both arguments flattened. -/
def headOps : List (HloOp τ sig (Elt F)) :=
  [StableHlo.reshape main_arg0 main_v0 rfl shapeCasts_S8x19x512x512_S8x19x262144,
    StableHlo.reshape main_arg1 main_v1 rfl shapeCasts_S8x512x512_S2097152]

/-- The operations after the tasks: the three totals over the 32 rows, the two means, their weighted sum. -/
def tailOps : List (HloOp τ sig (Elt F)) :=
  [StableHlo.unary main_v2 main_v3 ((extractStridedSlice S32x1x16 ![0, 0, 0] · slices_S32x3x16_S32x1x16_0_0_0) : (⟨S32x3x16, .f32⟩ : BufTy).Contents (Elt F) → (⟨S32x1x16, .f32⟩ : BufTy).Contents (Elt F)),
    StableHlo.reshape main_v3 main_v4 rfl shapeCasts_S32x1x16_S32x16,
    StableHlo.nullary main_cst (constant S_ .f32 0x00000000#32),
    StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.unary main_v2 main_v6 ((extractStridedSlice S32x1x16 ![0, 1, 0] · slices_S32x3x16_S32x1x16_0_1_0) : (⟨S32x3x16, .f32⟩ : BufTy).Contents (Elt F) → (⟨S32x1x16, .f32⟩ : BufTy).Contents (Elt F)),
    StableHlo.reshape main_v6 main_v7 rfl shapeCasts_S32x1x16_S32x16,
    StableHlo.nullary main_cst_0 (constant S_ .f32 0x00000000#32),
    StableHlo.binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.unary main_v2 main_v9 ((extractStridedSlice S32x1x16 ![0, 2, 0] · slices_S32x3x16_S32x1x16_0_2_0) : (⟨S32x3x16, .f32⟩ : BufTy).Contents (Elt F) → (⟨S32x1x16, .f32⟩ : BufTy).Contents (Elt F)),
    StableHlo.reshape main_v9 main_v10 rfl shapeCasts_S32x1x16_S32x16,
    StableHlo.nullary main_cst_1 (constant S_ .f32 0x00000000#32),
    StableHlo.binary main_v10 main_cst_1 main_v11 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.nullary main_cst_2 (constant S_ .f32 0x4A000000#32),
    StableHlo.binary main_cst_2 main_v11 main_v12 (subf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v11 main_cst_3 main_v13 (cmpf .ogt : (⟨S_, .f32⟩ : BufTy).Contents (Elt F) → (⟨S_, .f32⟩ : BufTy).Contents (Elt F) → (⟨S_, .i1⟩ : BufTy).Contents (Elt F)),
    StableHlo.nullary main_cst_4 (constant S_ .f32 0x3F800000#32),
    StableHlo.binary main_v11 main_cst_4 main_v14 (maximumf : (⟨S_, .f32⟩ : BufTy).Contents (Elt F) → (⟨S_, .f32⟩ : BufTy).Contents (Elt F) → (⟨S_, .f32⟩ : BufTy).Contents (Elt F)),
    StableHlo.binary main_v5 main_v14 main_v15 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.TRef.unary (.of main_cst_5) main_call0.v0 id,
    StableHlo.TRef.ternary (.of main_v13) (.of main_v15) main_call0.v0 main_call0.v1 select,
    StableHlo.nullary main_cst_6 (constant S_ .f32 0x00000000#32),
    StableHlo.binary main_v12 main_cst_6 main_v17 (cmpf .ogt : (⟨S_, .f32⟩ : BufTy).Contents (Elt F) → (⟨S_, .f32⟩ : BufTy).Contents (Elt F) → (⟨S_, .i1⟩ : BufTy).Contents (Elt F)),
    StableHlo.nullary main_cst_7 (constant S_ .f32 0x3F800000#32),
    StableHlo.binary main_v12 main_cst_7 main_v18 (maximumf : (⟨S_, .f32⟩ : BufTy).Contents (Elt F) → (⟨S_, .f32⟩ : BufTy).Contents (Elt F) → (⟨S_, .f32⟩ : BufTy).Contents (Elt F)),
    StableHlo.binary main_v8 main_v18 main_v19 (Host.divf : (⟨S_, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.TRef.unary (.of main_cst_8) main_call1.v0 id,
    StableHlo.TRef.ternary (.of main_v17) (.of main_v19) main_call1.v0 main_call1.v1 select,
    StableHlo.nullary main_cst_9 (constant S_ .f32 0x41200000#32),
    StableHlo.binary main_cst_9 main_v16 main_v21 (mulf : (⟨S_, .f32⟩ : BufTy).Contents (Elt F) → (⟨S_, .f32⟩ : BufTy).Contents (Elt F) → (⟨S_, .f32⟩ : BufTy).Contents (Elt F)),
    StableHlo.binary main_v21 main_v20 main_v22 (addf : (⟨S_, .f32⟩ : BufTy).Contents (Elt F) → (⟨S_, .f32⟩ : BufTy).Contents (Elt F) → (⟨S_, .f32⟩ : BufTy).Contents (Elt F))]

set_option maxRecDepth 16384 in
/-- The program on a device: the first line of host operations, the launch, the second line. -/
theorem main_eq (d : Dev nD) :
    main (F := F) d = (StableHlo.seq headOps >>= fun _ => (K (F := F)).run d 0 >>= fun _ => StableHlo.seq tailOps >>= pure) := rfl

/-- The buffers the two lines write. -/
def headRefs : List (Ref sig .tc) := [main_v0, main_v1]
/-- The buffers the second line writes. -/
def tailRefs : List (Ref sig .tc) :=
  [main_v3, main_v4, main_cst, main_v5, main_v6, main_v7, main_cst_0, main_v8, main_v9, main_v10, main_cst_1, main_v11, main_cst_2, main_v12, main_cst_3, main_v13, main_cst_4,
    main_v14, main_v15, main_cst_5, main_call0_v0, main_v16, main_cst_6, main_v17, main_cst_7, main_v18, main_v19, main_cst_8, main_call1_v0, main_v20, main_cst_9, main_v21, main_v22]

/-- The first line writes only `headRefs`. -/
theorem head_writes : (headOps (F := F)).Forall fun op => op.writes ⊆ (headRefs.map (Proc.devRef (τ := τ) .tc)).toFinset :=
  StableHlo.forall_writes_sub_of_map rfl
/-- The second line writes only `tailRefs`. -/
theorem tail_writes : (tailOps (F := F)).Forall fun op => op.writes ⊆ (tailRefs.map (Proc.devRef (τ := τ) .tc)).toFinset :=
  StableHlo.forall_writes_sub_of_map rfl

/-- No operation of the first line takes a new buffer. -/
theorem head_fresh : ∀ op ∈ (headOps (F := F)), op.fresh = ∅ :=
  List.forall_iff_forall_mem.mp (StableHlo.forall_fresh_of_map rfl)
/-- No operation of the second line does. -/
theorem tail_fresh : ∀ op ∈ (tailOps (F := F)), op.fresh = ∅ :=
  List.forall_iff_forall_mem.mp (StableHlo.forall_fresh_of_map rfl)

/-- The first line's buffers are among those the host holds. -/
theorem head_bufs : ∀ op ∈ (headOps (F := F)), op.bufs ⊆ Pipeline.ucRefs τ sig := by
  have h : (headOps (F := F)).Forall fun op => op.bufs ⊆ StableHlo.tcRefs τ sig := by
    unfold headOps
    simp [List.Forall]
  exact fun op hop => Pipeline.sub_ucRefs op (List.forall_iff_forall_mem.mp h op hop)
/-- So are the second line's. -/
theorem tail_bufs : ∀ op ∈ (tailOps (F := F)), op.bufs ⊆ Pipeline.ucRefs τ sig := by
  have h : (tailOps (F := F)).Forall fun op => op.bufs ⊆ StableHlo.tcRefs τ sig := by
    unfold tailOps
    simp [List.Forall, StableHlo.TRef.unary, StableHlo.TRef.ternary]
  exact fun op hop => Pipeline.sub_ucRefs op (List.forall_iff_forall_mem.mp h op hop)

/-! ## The contents through the run -/

section Contents

variable (m : (ℓ : Loc nD τ sig) → Buf (Elt F) ℓ)

/-- The device's buffers when the tasks start: both arguments flattened. -/
abbrev V1 (d : Dev nD) : Valuation τ sig (Elt F) := after headOps (launchContents m d)

/-- The logits as the tasks read them. -/
abbrev Xin (d : Dev nD) : S8x19x262144.Idx → F .f32 := V1 m d (Proc.devRef .tc main_v0)
/-- The labels as the tasks read them. -/
abbrev Yin (d : Dev nD) : S2097152.Idx → BitVec 32 := V1 m d (Proc.devRef .tc main_v1)

/-- The device's buffers when the tasks have ended: row `w` of the output is task `w`'s three vectors. -/
abbrev V2 (d : Dev nD) : Valuation τ sig (Elt F) :=
  Function.update (V1 m d) (Proc.devRef .tc main_v2) (outVal (Xin m d) (Yin m d))

/-- The device's buffers at the end. -/
abbrev V3 (d : Dev nD) : Valuation τ sig (Elt F) := after tailOps (V2 m d)

/-- An argument is at the end what it was at the launch. -/
theorem V3_arg0 (d : Dev nD) : V3 m d (Proc.devRef .tc main_arg0) = m ((SparseCore.T d).loc main_arg0) := by
  rw [V3, StableHlo.after_of_writes_sub tailOps _ tail_writes (by decide), V2,
    Function.update_of_ne (fun e => absurd (Proc.devRef_injective _ e) (by decide)), V1,
    StableHlo.after_of_writes_sub headOps _ head_writes (by decide)]
/-- The run leaves the labels as they were. -/
theorem V3_arg1 (d : Dev nD) : V3 m d (Proc.devRef .tc main_arg1) = m ((SparseCore.T d).loc main_arg1) := by
  rw [V3, StableHlo.after_of_writes_sub tailOps _ tail_writes (by decide), V2,
    Function.update_of_ne (fun e => absurd (Proc.devRef_injective _ e) (by decide)), V1,
    StableHlo.after_of_writes_sub headOps _ head_writes (by decide)]

end Contents

/-! ## The three buffers the tasks use, dealt to the 32 tasks -/

/-- The launch runs on two cores, -/
theorem nCore_zero : (K (F := F)).nCore 0 = 2 := rfl
/-- and on sixteen subcores of each. -/
theorem nSub_zero : (K (F := F)).nSub 0 = 16 := rfl

/-- The number of the task of core `c`, subcore `i`. -/
def wOf (c : Fin 2) (i : Fin 16) : Fin 32 := ⟨2 * i.val + c.val, by omega⟩

/-- A core and a subcore name one task, and every task is named once. -/
def wEquiv : Fin 2 × Fin 16 ≃ Fin 32 where
  toFun x := wOf x.1 x.2
  invFun w := (⟨w.val % 2, Nat.mod_lt _ (by decide)⟩, ⟨w.val / 2, by omega⟩)
  left_inv x := Prod.ext (Fin.ext (show (2 * x.2.val + x.1.val) % 2 = x.1.val by omega))
    (Fin.ext (show (2 * x.2.val + x.1.val) / 2 = x.2.val by omega))
  right_inv w := Fin.ext (show 2 * (w.val / 2) + w.val % 2 = w.val by omega)

/-- Task `w`'s share of an input: one of the 32 that five halvings make. -/
abbrev shr (w : Fin 32) : PosShare TreeShare := ShareLeaves.leaf 5 fullShare w

/-- Task `w`'s part of the three buffers. -/
abbrev taskW (d : Dev nD) (X : Buf (Elt F) (xLoc d)) (Y : Buf (Elt F) (yLoc d)) (Z : Buf (Elt F) (oLoc d)) (w : Fin 32) : sProp 𝕄 :=
  task d w (shr w) (shr w) X Y Z

/-- Task `w`'s row, seen through the whole output, is the `w`-th of its 32 parts. -/
theorem oRowSet_eq (w : Fin 32) : oRowSet w = (orow w).set := by
  show ((View.whole (main_v2_scv : Ref sig .scVector)).slice (orow w)).set = _
  rw [View.set_slice]
  exact Finset.map_refl

/-- The output is its 32 rows. -/
theorem rows_eq (d : Dev nD) (Z : Buf (Elt F) (oLoc d)) :
    (oLoc d ↦{fullShare} Z : sProp 𝕄) = bigSep Finset.univ fun w : Fin 32 => oLoc d ↦[oRowSet w]{fullShare} Z := by
  rw [← pointsTo_biUnion Finset.univ (ℓ := oLoc d) oRowSet fun i _ j _ h => by
      rw [oRowSet_eq, oRowSet_eq]
      exact Rect.part_disjoint odiv h,
    (Finset.biUnion_congr rfl fun w _ => oRowSet_eq w).trans (Rect.biUnion_part odiv)]

/-- The three buffers whole are the 32 tasks' parts of them. -/
theorem deal (d : Dev nD) (X : Buf (Elt F) (xLoc d)) (Y : Buf (Elt F) (yLoc d)) (Z : Buf (Elt F) (oLoc d)) :
    iprop((xLoc d ↦{fullShare} X) ∗ (yLoc d ↦{fullShare} Y) ∗ (oLoc d ↦{fullShare} Z))
      = (bigSep Finset.univ fun c : Fin 2 => bigSep Finset.univ fun i : Fin 16 => taskW d X Y Z (wOf c i) : sProp 𝕄) := by
  refine Eq.trans ?_ (bigSep_univ_prod (fun x : Fin 2 × Fin 16 => taskW d X Y Z (wEquiv x)))
  refine Eq.trans ?_ (bigSep_univ_equiv wEquiv (taskW d X Y Z))
  unfold taskW task
  rw [bigSep_sep', bigSep_sep', ← rows_eq]
  congr 1
  · exact ShareLeaves.pointsTo_leaves Finset.univ X 5 fullShare
  congr 1
  exact ShareLeaves.pointsTo_leaves Finset.univ Y 5 fullShare

/-! ## The launch -/

section Launch

variable (m : (ℓ : Loc nD τ sig) → Buf (Elt F) ℓ) (ρ : Dev nD → PrngReg)

/-- What a task is handed when it starts, and what it hands back. -/
abbrev goT (d : Dev nD) (c : Fin 2) (i : Fin 16) : sProp 𝕄 :=
  taskW d (Xin m d) (Yin m d) (V1 m d (Proc.devRef .tc main_v2)) (wOf c i)
/-- What a task hands back: the same, with its row computed. -/
abbrev tdT (d : Dev nD) (c : Fin 2) (i : Fin 16) : sProp 𝕄 :=
  taskW d (Xin m d) (Yin m d) (outVal (Xin m d) (Yin m d)) (wOf c i)

/-- A core is handed its sixteen tasks' parts, and hands them back. -/
def P : (K (F := F)).Pay (nD := nD) (Val := Elt F) (Name := ℕ) (U := UU) where
  st := fun q d c => match q with | 0 => bigSep Finset.univ fun i : Fin 16 => goT m d (Fin.cast nCore_zero c) i
  dn := fun q d c => match q with | 0 => bigSep Finset.univ fun i : Fin 16 => tdT m d (Fin.cast nCore_zero c) i
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

/-- What passes between the processors can be stored. -/
instance P_storable : (P (F := F) m).IsStorable where
  st q d c := match q with
    | 0 => (inferInstance : BI.Storable (upEmb : UEmb _ 𝕄) (bigSep Finset.univ fun i : Fin 16 => goT m d (Fin.cast nCore_zero c) i))
  dn q d c := match q with
    | 0 => (inferInstance : BI.Storable (upEmb : UEmb _ 𝕄) (bigSep Finset.univ fun i : Fin 16 => tdT m d (Fin.cast nCore_zero c) i))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-- A product over the launch's subcores is one over sixteen. -/
theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A product over the launch's cores is one over two. -/
theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a core is handed is its sixteen tasks' parts, and what they hand back is what it hands back. -/
theorem vecSplit : (K (F := F)).VecSplit' (P m) 0 := by
  intro d c
  show (bigSep Finset.univ fun i : Fin 16 => goT m d (Fin.cast nCore_zero c) i) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ bigSep Finset.univ fun i : Fin 16 => tdT m d (Fin.cast nCore_zero c) i))
  rw [tasks_eq (F := F) (goT m d (Fin.cast nCore_zero c)), tasks_eq (F := F) (tdT m d (Fin.cast nCore_zero c))]
  iintro H
  imodintro
  isplitl [H]
  · iexact H
  iintro H
  iexact H

/-- The coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The subcore's program is the kernel's body at the subcore's coordinates. -/
theorem defs₀_vector (c : Fin τ.nSC) (s : Fin τ.nSub) :
    defs₀ (F := F) (.scVector c s) 0 ()
      = SparseCore.onTile hcore0 hsub0 (fun c s => cc0__objectosphere_partials (coordsV c s)
          xV (Memref.isWhole_whole _) yV (Memref.isWhole_whole _) oV (Memref.isWhole_whole _)
          bV (Memref.isWhole_whole _) gV (Memref.isWhole_whole _) aV (Memref.isWhole_whole _) cc0_scoped0 cc0_scoped1 cc0_scoped2) ⟨⟩ c s := rfl

/-- The task's last assertion, in the launch theorem's words. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro
    exact fun p hp => (hW' p hp).imp_right Or.inl
  iexact HO

set_option maxRecDepth 16384 in
/-- Every task turns its part of the buffers as it finds them into its part with its row computed. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) hF O W hO (shr _) (shr _) (Xin m d) (Yin m d) _).trans (wp_mono frame _ _ fun _ => obl_post)

/-! ## The launch's ghost state -/

/-- The ghost state the launch starts from. -/
def u₀ : UU := (initOf (K (F := F)).hsCells (K (F := F)).hsToks, 1)

/-- A product of nothings is nothing. -/
theorem bigSep_nothing {I : Type} (s : Finset I) : (bigSep s fun _ => iprop(emp)) = (iprop(emp) : sProp 𝕄) :=
  bigSep_emp_const s

/-- The ghost state pays for the launch's handshakes; the rest is nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [bigSep_nothing]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on a device -/

/-- The three buffers the tasks use, as the host's lines name them. -/
def tri : Finset (DevRef τ sig) := {Proc.devRef .tc main_v0, Proc.devRef .tc main_v1, Proc.devRef .tc main_v2}

/-- The host holds the three. -/
theorem tri_sub : tri ⊆ Pipeline.ucRefs τ sig := by decide

/-- To hold the three is to hold each whole. -/
theorem held_tri (d : Dev nD) (W : Valuation τ sig (Elt F)) :
    (held (d.tc : Thread nD τ) tri W : sProp 𝕄)
      = iprop((xLoc d ↦{fullShare} W (Proc.devRef .tc main_v0)) ∗ (yLoc d ↦{fullShare} W (Proc.devRef .tc main_v1))
          ∗ (oLoc d ↦{fullShare} W (Proc.devRef .tc main_v2))) := by
  unfold held tri
  rw [SparseCore.bigSep_insert' (by decide), SparseCore.bigSep_insert' (by decide), bigSep_singleton]

/-- What the host holds when its last line has run: both arguments and the result. -/
def fin3 : Finset (DevRef τ sig) := {Proc.devRef .tc main_arg0, Proc.devRef .tc main_arg1, Proc.devRef .tc main_v22}

/-- The host holds those too. -/
theorem fin3_sub : fin3 ⊆ Pipeline.ucRefs τ sig := by decide

/-- Both arguments as they were, and the result computed. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_v22 ↦{fullShare} V3 m d (Proc.devRef .tc main_v22)))

/-- To hold those when the last line has run is `FIN`. -/
theorem held_fin3 (d : Dev nD) : (held (d.tc : Thread nD τ) fin3 (V3 m d) : sProp 𝕄) = FIN m d := by
  unfold held fin3
  rw [SparseCore.bigSep_insert' (by decide), SparseCore.bigSep_insert' (by decide), bigSep_singleton, V3_arg0, V3_arg1]

/-- What the cores are handed is the three buffers as the first line leaves them. -/
theorem st0_eq (d : Dev nD) : (bigSep Finset.univ fun c : Fin ((K (F := F)).nCore 0) => (P m).st 0 d c)
    = (held (d.tc : Thread nD τ) tri (V1 m d) : sProp 𝕄) := by
  rw [held_tri, deal]
  exact cores_eq fun c => bigSep Finset.univ fun i : Fin 16 => goT m d c i

/-- What the cores hand back is the three buffers with the output computed. -/
theorem dn0_eq (d : Dev nD) : (bigSep Finset.univ fun c : Fin ((K (F := F)).nCore 0) => (P m).dn 0 d c)
    = (held (d.tc : Thread nD τ) tri (V2 m d) : sProp 𝕄) := by
  rw [held_tri, deal]
  unfold V2
  rw [Function.update_of_ne (fun e => absurd (Proc.devRef_injective _ e) (by decide)),
    Function.update_of_ne (fun e => absurd (Proc.devRef_injective _ e) (by decide)), Function.update_self]
  exact cores_eq fun c => bigSep Finset.univ fun i : Fin 16 => tdT m d c i

/-- The tasks change the output and nothing else of what the host holds. -/
theorem rest_eq (d : Dev nD) : (held (d.tc : Thread nD τ) (Pipeline.ucRefs τ sig \ tri) (V1 m d) : sProp 𝕄)
    = held (d.tc : Thread nD τ) (Pipeline.ucRefs τ sig \ tri) (V2 m d) :=
  StableHlo.held_congr _ fun b hb => by
    unfold V2
    rw [Function.update_of_ne]
    rintro rfl
    exact (Finset.mem_sdiff.mp hb).2 (by decide)

set_option backward.isDefEq.respectTransparency.types false in
/-- `@main` on a device, from what the launch gives the host to both arguments as they were and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄)
      = held (d.tc : Thread nD τ) (Pipeline.ucRefs τ sig) (launchContents m d) from
    Pipeline.unscopedBufs_held d (launchContents m d), main_eq]
  iintro ⟨#Hctx, Hst, ⟨Hb, Hh, Hts, -⟩, -⟩
  iapply (StableHlo.wp_seq 𝒱 none Set.univ d (Pipeline.ucRefs τ sig) _ headOps head_bufs head_fresh (launchContents m d)) $$ [Hb Hh]
  · isplitl [Hb]
    · iexact Hb
    iexact Hh
  iintro ⟨Hb, Hh⟩
  ihave H := (Entails.of_eq (StableHlo.held_sub_split (d.tc : Thread nD τ) tri_sub (V1 m d))) $$ Hh
  icases H with ⟨Htri, Hrest⟩
  simp only [wp_bind]
  iapply ((K (F := F)).wp_run (D (F := F)) 𝒱 (EH := EH) (P := P m) κ d 0) $$ [Hst Htri Hb Hts Hrest]
  isplitr
  · iexact Hctx
  isplitl [Hst]
  · iexact Hst
  isplitl [Htri]
  · rw [st0_eq]
    iexact Htri
  iintro ⟨Hst, Hdn⟩
  ihave Htri := (Entails.of_eq (dn0_eq m d)) $$ Hdn
  ihave Hrest' := (Entails.of_eq (rest_eq m d)) $$ Hrest
  ihave Hh := (Entails.of_eq (StableHlo.held_sub_split (d.tc : Thread nD τ) tri_sub (V2 m d)).symm) $$ [Htri Hrest']
  · isplitl [Htri]
    · iexact Htri
    iexact Hrest'
  iapply (StableHlo.wp_seq 𝒱 none Set.univ d (Pipeline.ucRefs τ sig) pure tailOps tail_bufs tail_fresh (V2 m d)) $$ [Hb Hh]
  · isplitl [Hb]
    · iexact Hb
    iexact Hh
  iintro ⟨Hb, Hh⟩
  simp only [wp_pure]
  ihave H := (Entails.of_eq (StableHlo.held_sub_split (d.tc : Thread nD τ) fin3_sub (V3 m d))) $$ Hh
  icases H with ⟨Hfin, -⟩
  ihave Hfin' := (Entails.of_eq (held_fin3 m d)) $$ Hfin
  imodintro
  imodintro
  isplitl [Hst]
  · iexact Hst
  isplitl [Hfin']
  · iexact Hfin'
  isplitl [Hb] <;> iassumption

/-- What a device's final memory says. -/
def fq (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_v22) = V3 m d (Proc.devRef .tc main_v22)

set_option maxRecDepth 16384 in
theorem hfin (d : Dev nD) (s' : Phys nD τ sig (Elt F)) : iprop(FIN m d ∗ SI s') ⊢ (⌜fq m d s'⌝ : sProp 𝕄) := by
  have whole : ∀ {ℓ : Loc nD τ sig} {f : Buf (Elt F) ℓ}, iprop(SI s' ∗ (ℓ ↦{fullShare} f)) ⊢ (⌜s'.mem.mem ℓ = f⌝ : sProp 𝕄) :=
    SI_pointsTo_agree.trans (BI.pure_mono fun h => funext fun i => h i (Finset.mem_univ i))
  iintro ⟨⟨H0, H1, H2⟩, HSI⟩
  ihave H := (persistent_entails_right whole) $$ [HSI H0]
  · isplitl [HSI] <;> iassumption
  icases H with ⟨%h0, HSI, -⟩
  ihave H := (persistent_entails_right whole) $$ [HSI H1]
  · isplitl [HSI] <;> iassumption
  icases H with ⟨%h1, HSI, -⟩
  ihave H := whole $$ [HSI H2]
  · isplitl [HSI] <;> iassumption
  icases H with %h2
  ipureintro
  exact ⟨h0, h1, h2⟩

/-- Every device ends with its arguments as they were, the result at the host's value, and no semaphore raised. -/
def QC : PUnit × MemSt nD τ sig (Elt F) → Prop := fun r =>
  (∀ d : Dev nD, r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_v22) = V3 m d (Proc.devRef .tc main_v22)) ∧ r.2.sem = fun _ => 0

/-- The whole program, from any memory with no semaphore raised. -/
theorem run [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.KernelIdeal.Run
-- ==== Proof.KernelValue.lean ====
/-
  The kernel's result over the extended reals: the two means of its three sums over all pixels, in the arguments' own
  coordinates.
-/
module

public import proofs.«01_k».proof.Proof.TileValue
public import proofs.«01_k».proof.Proof.Launch
public import Idealize.ShloMosaic.Lib.Claim

@[expose] public section

noncomputable section

namespace Cert.KernelIdeal.Run

open Cert.KernelIdeal Cert.KernelIdeal.Gen
open Idealize.ShloMosaic
open Idealize.ShloMosaic.StableHlo (held after launchContents)

/-- The mean of `n` terms with sum `S`, zero of no terms. -/
def mean (S n : EReal) : EReal := Scalar.select (Ideal.cmp .ogt n 0) (Ideal.div S (max n 1)) 0

/-- The loss, from the two sums and the two counts. -/
def loss (SU SK n k : EReal) : EReal := Ideal.ofBits .f32 0x41200000#32 * mean SU n + mean SK k

/-! ## The host's reading of the 32 rows -/

/-- One row of every task, added up. -/
theorem row_total (Z : S32x3x16.Idx → Ideal .f32) (r : Fin 3) (h : S32x3x16.Slices ![0, r.val, 0] S32x1x16) (i : S_.Idx) :
    Host.reduceAdd (F := Ideal) (φ := .f32) (shapeCast S32x16 (extractStridedSlice S32x1x16 ![0, r.val, 0] Z h) shapeCasts_S32x1x16_S32x16)
        (constant S_ .f32 0x00000000#32) reducesTo_S32x16_S_d0_1 h_S_ i
      = ∑ w : Fin 32, ∑ l : Fin 16, Z (ix3 w r l) := by
  have e (w : Fin 32) (l : Fin 16) :
      shapeCast S32x16 (extractStridedSlice S32x1x16 ![0, r.val, 0] Z h) shapeCasts_S32x1x16_S32x16 (ix2 w l) = Z (ix3 w r l) := by
    pointwise
  refine (Ideal.hostReduceAdd_total reducesTo_S32x16_S_d0_1 (fun b => b.elim0) _ _ i).trans ?_
  rw [sum_idx2]
  simp only [e]
  exact (congrArg (· + _) Ideal.ofBits_zero_f32).trans (zero_add _)

/-- The host's operations after the launch, from the table `Z` of the tasks' rows. -/
theorem tail_value (W : Valuation τ sig (Elt Ideal)) (Z : S32x3x16.Idx → Ideal .f32) (hZ : W (Proc.devRef .tc main_v2) = Z) (i : S_.Idx) :
    (after tailOps W (Proc.devRef .tc main_v22) : S_.Idx → EReal) i
      = loss (∑ w : Fin 32, ∑ l : Fin 16, Z (ix3 w (0 : Fin 3) l)) (∑ w : Fin 32, ∑ l : Fin 16, Z (ix3 w (1 : Fin 3) l))
          (∑ w : Fin 32, ∑ l : Fin 16, Z (ix3 w (2 : Fin 3) l))
          (Ideal.ofBits .f32 0x4A000000#32 - ∑ w : Fin 32, ∑ l : Fin 16, Z (ix3 w (2 : Fin 3) l)) := by
  rw [← row_total Z 0 slices_S32x3x16_S32x1x16_0_0_0 i, ← row_total Z 1 slices_S32x3x16_S32x1x16_0_1_0 i,
    ← row_total Z 2 slices_S32x3x16_S32x1x16_0_2_0 i]
  unfold tailOps
  after_results
  rw [hZ]
  unfold loss mean
  simp only [← Ideal.ofBits_zero_f32, ← Ideal.ofBits_one_f32]
  rfl

/-! ## The flattened arguments -/

section Args

variable (m : (ℓ : Loc nD τ sig) → Buf (Elt Ideal) ℓ) (d : Dev nD)

/-- The logits. -/
abbrev argX : S8x19x512x512.Idx → EReal := m ((SparseCore.T d : Thread nD τ).loc main_arg0)
/-- The labels. -/
abbrev argY : S8x512x512.Idx → BitVec 32 := m ((SparseCore.T d : Thread nD τ).loc main_arg1)

/-- The launch reads the logits with their two inner axes joined. -/
theorem Xin_eq : Xin m d = shapeCast S8x19x262144 (argX m d) shapeCasts_S8x19x512x512_S8x19x262144 := by
  unfold Xin V1 headOps
  after_results
  rfl
/-- The launch reads the labels as one run. -/
theorem Yin_eq : Yin m d = shapeCast S2097152 (argY m d) shapeCasts_S8x512x512_S2097152 := by
  unfold Yin V1 headOps
  after_results
  rfl

/-- The pixel of number `q`. -/
def pix (q : ℕ) : S8x512x512.Idx :=
  ix3 (⟨q / 262144 % 8, Nat.mod_lt _ (by decide)⟩ : Fin 8) (⟨q / 512 % 512, Nat.mod_lt _ (by decide)⟩ : Fin 512)
    (⟨q % 512, Nat.mod_lt _ (by decide)⟩ : Fin 512)

/-- A pixel's logits. -/
def logits (X : S8x19x512x512.Idx → EReal) (p : S8x512x512.Idx) (c : Fin 19) : EReal := X (ix4 (p 0) c (p 1) (p 2))

/-- The logits of pixel number `q`, in the argument. -/
theorem logitAt_arg (q : ℕ) (c : Fin 19) : logitAt (Xin m d) q c = logits (argX m d) (pix q) c := by
  rw [Xin_eq]
  refine congrArg _ (Shape.reshapeEquiv_eq_of_rowMajor _ ?_)
  rw [Shape.rowMajor_val_three, Shape.rowMajor_val_four]
  simp only [pix, ix3, ix4]
  show (((q / 262144 % 8) * 19 + c.val) * 512 + q / 512 % 512) * 512 + q % 512 = ((q / 262144 % 8) * 19 + c.val) * 262144 + q % 262144
  omega

/-- The label of pixel number `q`, in the argument. -/
theorem labelAt_arg (q : ℕ) (hq : q < 2097152) : labelAt (Yin m d) q = argY m d (pix q) := by
  rw [Yin_eq]
  refine congrArg _ (Shape.reshapeEquiv_eq_of_rowMajor _ ?_)
  rw [Shape.rowMajor_val_three, Shape.rowMajor_val_one]
  show ((q / 262144 % 8) * 512 + q / 512 % 512) * 512 + q % 512 = q % 2097152
  omega

/-- A sum over all pixels, by number. -/
theorem sum_pix (f : S8x512x512.Idx → EReal) : ∑ q ∈ Finset.range 2097152, f (pix q) = ∑ p, f p := by
  rw [sum_idx3, show 2097152 = 262144 * 8 from rfl, ← sum_runs (fun q => f (pix q)) 8 262144, Finset.sum_range]
  refine Finset.sum_congr rfl fun a _ => ?_
  rw [show 262144 = 512 * 512 from rfl, ← sum_runs (fun q => f (pix (512 * 512 * a.val + q))) 512 512, Finset.sum_range]
  refine Finset.sum_congr rfl fun b _ => ?_
  rw [Finset.sum_range]
  refine Finset.sum_congr rfl fun c _ => congrArg f ?_
  unfold pix
  have ha := a.isLt
  have hb := b.isLt
  have hc := c.isLt
  congr 1 <;> apply Fin.ext <;> dsimp only <;> omega

/-- The tasks' rows, added over tasks and lanes, are sums over all pixels. -/
theorem out_total (X : S8x19x262144.Idx → Ideal .f32) (Y : S2097152.Idx → BitVec 32) :
    ∑ w : Fin 32, ∑ l : Fin 16, outVal X Y (ix3 w (0 : Fin 3) l) = ∑ q ∈ Finset.range 2097152, addU X Y q
    ∧ ∑ w : Fin 32, ∑ l : Fin 16, outVal X Y (ix3 w (1 : Fin 3) l) = ∑ q ∈ Finset.range 2097152, addK X Y q
    ∧ ∑ w : Fin 32, ∑ l : Fin 16, outVal X Y (ix3 w (2 : Fin 3) l) = ∑ q ∈ Finset.range 2097152, addC Y q := by
  have hw (w : Fin 32) : wN (coordW w) = w.val := by
    show 2 * (w.val / 2) + w.val % 2 = w.val
    omega
  have key (r : Fin 3) (f : ℕ → EReal)
      (h : ∀ (w : Fin 32) (l : Fin 16), outVal X Y (ix3 w r l)
        = ∑ t ∈ Finset.range 32, ∑ j ∈ Finset.range 128, f (65536 * w.val + 2048 * t + (16 * j + l.val))) :
      ∑ w : Fin 32, ∑ l : Fin 16, outVal X Y (ix3 w r l) = ∑ q ∈ Finset.range 2097152, f q := by
    rw [← sum_lanes f, Finset.sum_range]
    refine Finset.sum_congr rfl fun w _ => ?_
    rw [Finset.sum_range]
    exact Finset.sum_congr rfl fun l _ => h w l
  refine ⟨key 0 _ fun w l => ?_, key 1 _ fun w l => ?_, key 2 _ fun w l => ?_⟩
  · rw [← hw w]
    exact (row_lane X Y (coordW w) l).1
  · rw [← hw w]
    exact (row_lane X Y (coordW w) l).2.1
  · rw [← hw w]
    exact (row_lane X Y (coordW w) l).2.2

/-- The number of pixels without a label. -/
def voids (Y : S8x512x512.Idx → BitVec 32) : ℕ := (Finset.univ.filter fun p => Y p = 0#32).card
/-- The number of pixels with one. -/
def knowns (Y : S8x512x512.Idx → BitVec 32) : ℕ := (Finset.univ.filter fun p => ¬ Y p = 0#32).card

/-- The number of pixels. -/
theorem card_pixels : Fintype.card S8x512x512.Idx = 2097152 := by
  have h := (Fintype.card_congr S8x512x512.rowMajor).trans (Fintype.card_fin _)
  rw [h]
  rfl

/-- Every pixel either has a label or has none. -/
theorem voids_add_knowns (Y : S8x512x512.Idx → BitVec 32) : voids Y + knowns Y = 2097152 := by
  rw [← card_pixels]
  exact Finset.card_filter_add_card_filter_not (s := Finset.univ) (fun p => Y p = 0#32)

/-- The kernel's third sum counts the pixels without a label. -/
theorem sum_pixC (Y : S8x512x512.Idx → BitVec 32) : ∑ p, pixC (Y p) = ((voids Y : ℕ) : EReal) := by
  unfold pixC voids
  exact Finset.sum_boole _ _

/-- The kernel's constant is the number of pixels. -/
theorem ofBits_pixels : Ideal.ofBits .f32 0x4A000000#32 = ((2097152 : ℕ) : EReal) := by
  rw [← EReal.coe_natCast]
  simp [Ideal.ofBits, Ideal.ieee, -EReal.coe_mul]
  norm_num

/-- All pixels less those without a label are those with one. -/
theorem pixels_sub (Y : S8x512x512.Idx → BitVec 32) : Ideal.ofBits .f32 0x4A000000#32 - ((voids Y : ℕ) : EReal) = ((knowns Y : ℕ) : EReal) := by
  rw [ofBits_pixels, ← voids_add_knowns Y, ← EReal.coe_natCast, ← EReal.coe_natCast, ← EReal.coe_natCast, ← EReal.coe_sub]
  congr 1
  push_cast
  ring

/-- The loss of logits `X` and labels `Y`. -/
def pixLoss (X : S8x19x512x512.Idx → EReal) (Y : S8x512x512.Idx → BitVec 32) : EReal :=
  loss (∑ p, pixU (logits X p) (Y p)) (∑ p, pixK (logits X p) (Y p)) (voids Y : ℕ) (knowns Y : ℕ)

/-- The kernel's result is the loss of its arguments. -/
theorem kernel_value (i : S_.Idx) : (V3 m d (Proc.devRef .tc main_v22) : S_.Idx → EReal) i = pixLoss (argX m d) (argY m d) := by
  have hU : ∑ q ∈ Finset.range 2097152, addU (Xin m d) (Yin m d) q = ∑ p, pixU (logits (argX m d) p) (argY m d p) := by
    rw [← sum_pix]
    refine Finset.sum_congr rfl fun q hq => ?_
    exact congr (congrArg pixU (funext (logitAt_arg m d q))) (labelAt_arg m d q (Finset.mem_range.1 hq))
  have hK : ∑ q ∈ Finset.range 2097152, addK (Xin m d) (Yin m d) q = ∑ p, pixK (logits (argX m d) p) (argY m d p) := by
    rw [← sum_pix]
    refine Finset.sum_congr rfl fun q hq => ?_
    exact congr (congrArg pixK (funext (logitAt_arg m d q))) (labelAt_arg m d q (Finset.mem_range.1 hq))
  have hC : ∑ q ∈ Finset.range 2097152, addC (Yin m d) q = ((voids (argY m d) : ℕ) : EReal) := by
    rw [← sum_pixC, ← sum_pix]
    exact Finset.sum_congr rfl fun q hq => congrArg pixC (labelAt_arg m d q (Finset.mem_range.1 hq))
  obtain ⟨eU, eK, eC⟩ := out_total (Xin m d) (Yin m d)
  refine (tail_value (V2 m d) (outVal (Xin m d) (Yin m d)) (Function.update_self _ _ _) i).trans ?_
  rw [eU, eK, eC, hU, hK, hC, pixels_sub]
  rfl

end Args

end Cert.KernelIdeal.Run
-- ==== Proof.ReferenceValue.lean ====
/-
  The reference's result over the extended reals: the same loss of its arguments as the kernel's.
-/
module

public import proofs.«01_k».proof.Proof.KernelValue
public import proofs.«01_k».proof.Proof.Gen.ReferenceIdeal
public import Idealize.ShloMosaic.Lib.IndicatorCount
public import Idealize.ShloMosaic.Lib.WordCmp

@[expose] public section

noncomputable section

namespace Cert.ReferenceIdeal.Value

open Cert.ReferenceIdeal Cert.ReferenceIdeal.Gen
open Idealize.ShloMosaic Idealize.ShloMosaic.WordCmp
open Cert.KernelIdeal.Run (mean loss nrm pixU pixK logits voids knowns pixLoss card_pixels)

/-- The number of ones of a mask, as the reference counts it. -/
abbrev count (p : IVec S8x512x512 1) : IVec S_ 32 :=
  Host.reduce IntOp.addi (extui 32 p natLt_1_32) (constantI S_ 32 0#32) reducesTo_S8x512x512_S_d0_1_2 h_S_

/-- A scalar over all pixels. -/
abbrev every (b : BitVec 32) : FVec Ideal S8x512x512 .f32 :=
  broadcastInDim S8x512x512 ![] bcast_S_S8x512x512 (constant S_ .f32 b)

/-- The mean of `x` over a mask, as the reference takes it. -/
def meanOver (p : IVec S8x512x512 1) (x : FVec Ideal S8x512x512 .f32) : FVec Ideal S_ .f32 :=
  select (cmpi .sgt (count p) (constantI S_ 32 0#32))
    (Host.divf (Host.reduceAdd (select p x (every 0x00000000#32)) (constant S_ .f32 0x00000000#32) reducesTo_S8x512x512_S_d0_1_2 h_S_)
      (sitofp .f32 (maxsi (count p) (constantI S_ 32 1#32))))
    (constant S_ .f32 0x00000000#32)

/-- The pixels without a label. -/
def isVoid (Y : IVec S8x512x512 32) : IVec S8x512x512 1 :=
  cmpi .eq Y (broadcastInDim S8x512x512 ![] bcast_S_S8x512x512 (constantI S_ 32 0#32))

/-- The logits with a pixel's own beside each other. -/
abbrev turned (X : FVec Ideal S8x19x512x512 .f32) : FVec Ideal S8x512x512x19 .f32 :=
  transpose S8x512x512x19 [0, 2, 3, 1] X transposes_S8x19x512x512_S8x512x512x19_0_2_3_1

/-- Every pixel's squared norm. -/
def norms (X : FVec Ideal S8x19x512x512 .f32) : FVec Ideal S8x512x512 .f32 :=
  Host.reduceAdd (mulf (turned X) (turned X)) (constant S_ .f32 0x00000000#32) reducesTo_S8x512x512x19_S8x512x512_d3 h_S_

/-- The reference's result. -/
def result (X : FVec Ideal S8x19x512x512 .f32) (Y : IVec S8x512x512 32) : FVec Ideal S_ .f32 :=
  addf (mulf (constant S_ .f32 0x41200000#32) (meanOver (isVoid Y) (norms X)))
    (meanOver (noti (isVoid Y)) (maximumf (subf (every 0x3F800000#32) (norms X)) (every 0x00000000#32)))

/-- A pixel's squared norm is the sum of its logits' squares. -/
theorem norms_apply (X : FVec Ideal S8x19x512x512 .f32) (j : S8x512x512.Idx) : norms X j = nrm (logits X j) := by
  idx_vars j
  unfold norms nrm logits
  pointwise

/-- The count of a mask, as a word. -/
theorem count_apply (p : IVec S8x512x512 1) (i : S_.Idx) :
    count p i = BitVec.ofNat 32 (Finset.univ.filter fun j => p j = 1#1).card := by
  have h := IndicatorCount.fold_addi_setWidth_eq_card (w := 32) p Finset.univ
  rw [← h]
  unfold count
  rw [Host.reduce_eq_fold]
  rw [Finset.filter_true_of_mem]
  · rfl
  · intro j _
    funext b
    exact b.elim0

/-- A mask has no more ones than there are pixels. -/
theorem count_le (p : IVec S8x512x512 1) : (Finset.univ.filter fun j => p j = 1#1).card ≤ 2097152 :=
  card_pixels ▸ Finset.card_filter_le _ _

/-- A count is positive as a word when it is as a number. -/
theorem pos_word (n : ℕ) (hn : n ≤ 2097152) :
    IntOp.cmpi .sgt (BitVec.ofNat 32 n) 0#32 = Ideal.cmp .ogt ((n : ℕ) : EReal) 0 := by
  have hn' : (BitVec.ofNat 32 n).toInt = n := toInt_ofNat_of_lt (by omega)
  rw [cmpi_sgt_eq, hn']
  show BitVec.ofBool (decide ((0 : ℤ) < n)) = BitVec.ofBool (decide ((0 : EReal) < (n : EReal)))
  congr 2
  simp

/-- The larger of a count and one, read as a number. -/
theorem max_word (n : ℕ) (hn : n ≤ 2097152) :
    (((IntOp.maxsi (BitVec.ofNat 32 n) 1#32).toInt : ℝ) : EReal) = max ((n : ℕ) : EReal) 1 := by
  have h1 : (1#32).toInt = 1 := by decide
  have hn' : (BitVec.ofNat 32 n).toInt = n := toInt_ofNat_of_lt (by omega)
  have h : (IntOp.maxsi (BitVec.ofNat 32 n) 1#32).toInt = max (n : ℤ) 1 := by
    unfold IntOp.maxsi
    split <;> rename_i hs <;> rw [BitVec.slt_iff_toInt_lt] at hs <;> omega
  rw [h]
  rcases le_total n 1 with hn1 | hn1
  · have e : ((n : ℕ) : EReal) ≤ 1 := by exact_mod_cast hn1
    rw [max_eq_right (by omega), max_eq_right e]
    simp
  · have e : (1 : EReal) ≤ ((n : ℕ) : EReal) := by exact_mod_cast hn1
    rw [max_eq_left (by omega), max_eq_left e]
    simp

/-- The mean's last step at an index, from the sum and the count. -/
theorem mean_at (C : IVec S_ 32) (S : FVec Ideal S_ .f32) (i : S_.Idx) :
    select (cmpi .sgt C (constantI S_ 32 0#32)) (Host.divf S (sitofp .f32 (maxsi C (constantI S_ 32 1#32)))) (constant S_ .f32 0x00000000#32) i
      = Scalar.select (IntOp.cmpi .sgt (C i) 0#32) (Ideal.div (S i) (((IntOp.maxsi (C i) 1#32).toInt : ℝ) : EReal))
          (Ideal.ofBits .f32 0x00000000#32) := rfl

/-- The reference's mean over a mask. -/
theorem meanOver_apply (p : IVec S8x512x512 1) (x : FVec Ideal S8x512x512 .f32) (i : S_.Idx) :
    meanOver p x i = mean (∑ j, Scalar.select (p j) (x j) 0) ((Finset.univ.filter fun j => p j = 1#1).card : ℕ) := by
  have hs : Host.reduceAdd (F := Ideal) (φ := .f32) (select p x (every 0x00000000#32)) (constant S_ .f32 0x00000000#32) reducesTo_S8x512x512_S_d0_1_2 h_S_ i
      = ∑ j, Scalar.select (p j) (x j) 0 := by
    refine (Ideal.hostReduceAdd_total reducesTo_S8x512x512_S_d0_1_2 (fun b => b.elim0) _ _ i).trans ?_
    refine (congrArg (· + _) Ideal.ofBits_zero_f32).trans ((zero_add _).trans ?_)
    exact Finset.sum_congr rfl fun j _ => congrArg (Scalar.select (p j) (x j)) Ideal.ofBits_zero_f32
  have hn := count_le p
  unfold meanOver
  rw [mean_at]
  rw [hs, count_apply, pos_word _ hn, max_word _ hn, Ideal.ofBits_zero_f32]
  rfl

/-- The mask of the unlabelled pixels. -/
theorem isVoid_apply (Y : IVec S8x512x512 32) (j : S8x512x512.Idx) : isVoid Y j = BitVec.ofBool (decide (Y j = 0#32)) := by
  unfold isVoid
  rw [cmpi_at, cmpi_eq_eq]
  rfl

/-- The mask of the labelled pixels. -/
theorem known_apply (Y : IVec S8x512x512 32) (j : S8x512x512.Idx) : noti (isVoid Y) j = BitVec.ofBool (decide (¬ Y j = 0#32)) := by
  show ~~~ (isVoid Y j) = _
  rw [isVoid_apply]
  by_cases h : Y j = 0#32 <;> simp [h]

/-- The last step at an index. -/
theorem join_at (A B : FVec Ideal S_ .f32) (i : S_.Idx) :
    addf (mulf (constant S_ .f32 0x41200000#32) A) B i = Ideal.ofBits .f32 0x41200000#32 * A i + B i := rfl

/-- A known pixel's term at an index. -/
theorem relu_at (N : FVec Ideal S8x512x512 .f32) (j : S8x512x512.Idx) :
    maximumf (subf (every 0x3F800000#32) N) (every 0x00000000#32) j
      = max (Ideal.ofBits .f32 0x3F800000#32 - N j) (Ideal.ofBits .f32 0x00000000#32) := rfl

/-- The reference's result is the loss of its arguments. -/
theorem result_value (X : FVec Ideal S8x19x512x512 .f32) (Y : IVec S8x512x512 32) (i : S_.Idx) : result X Y i = pixLoss X Y := by
  have hv : (Finset.univ.filter fun j => isVoid Y j = 1#1).card = voids Y := by
    unfold voids
    simp only [isVoid_apply, ofBool_decide_eq_one_iff]
  have hk : (Finset.univ.filter fun j => noti (isVoid Y) j = 1#1).card = knowns Y := by
    unfold knowns
    simp only [known_apply, ofBool_decide_eq_one_iff]
  have hU : ∑ j, Scalar.select (isVoid Y j) (norms X j) 0 = ∑ j, pixU (logits X j) (Y j) := by
    refine Finset.sum_congr rfl fun j _ => ?_
    rw [isVoid_apply, norms_apply, select_decide]
    rfl
  have hK : ∑ j, Scalar.select (noti (isVoid Y) j) (maximumf (subf (every 0x3F800000#32) (norms X)) (every 0x00000000#32) j) 0
      = ∑ j, pixK (logits X j) (Y j) := by
    refine Finset.sum_congr rfl fun j _ => ?_
    rw [known_apply, relu_at, norms_apply, Ideal.ofBits_one_f32, Ideal.ofBits_zero_f32, select_decide]
    unfold pixK
    by_cases h : Y j = 0#32 <;> simp [h]
  unfold result
  rw [join_at, meanOver_apply, meanOver_apply, hv, hk, hU, hK]
  unfold pixLoss loss
  rfl

end Cert.ReferenceIdeal.Value

end
-- ==== Proof.lean ====
/-
  The claims about the kernel and the reference: every run of each ends with the arguments as they were and all
  semaphores at zero, the kernel over the extended reals is the kernel, and its result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.KernelLaunch
public import proofs.«01_k».proof.Proof.ReferenceValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel ends on every memory with both arguments as they were. -/
theorem frame_kernel : Cert.quiescent_Kernel := fun m g _ =>
  (θ_run _ _ _).mono (fun _ h => ⟨fun c => ⟨(h.1 c).1, (h.1 c).2.1⟩, h.2⟩) (Cert.Kernel.Run.run (F := Bits) m g)

/-- So does the kernel read over the extended reals. -/
theorem frame_kernelIdeal : Cert.quiescent_KernelIdeal := fun m g _ =>
  (θ_run _ _ _).mono (fun _ h => ⟨fun c => ⟨(h.1 c).1, (h.1 c).2.1⟩, h.2⟩) (Cert.KernelIdeal.Run.run (F := Ideal) m g)

/-- So does the reference read over the extended reals. -/
theorem frame_reference : Cert.quiescent_ReferenceIdeal := by
  intro m g _
  have h : θ_run (Cert.ReferenceIdeal.defs (F := Ideal)) (onTc (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
    hlo_run
  exact (θ_run _ _ _).mono (fun r h => ⟨h, sem_eq_zero_of_no_sems (by decide) r.2⟩) h

/-- The five claims. Both sides of the last are the loss of `pixLoss`; what is left after the reference's run is to read off
    its term. -/
theorem claim : Cert.Claim := ⟨Cert.Kernel.Gen.facts, Cert.KernelIdeal.Gen.facts, Cert.ReferenceIdeal.Gen.facts,
  frame_kernel, frame_kernelIdeal, frame_reference, trivial, by
    intro m g m' g' _ hagree
    refine ⟨fun c _ => Cert.KernelIdeal.Run.pixLoss (Cert.KernelIdeal.Run.argX m c) (Cert.KernelIdeal.Run.argY m c),
      (θ_run _ _ _).mono (fun _ h c => ⟨(h.1 c).2.2.trans (funext (Cert.KernelIdeal.Run.kernel_value m c)), (h.1 c).1, (h.1 c).2.1⟩)
        (Cert.KernelIdeal.Run.run (F := Ideal) m g), ?_⟩
    hlo_run
    refine Eq.trans ?_ (funext (Cert.ReferenceIdeal.Value.result_value (Cert.KernelIdeal.Run.argX m c) (Cert.KernelIdeal.Run.argY m c)))
    unfold Cert.ReferenceIdeal.Value.result Cert.ReferenceIdeal.Value.meanOver Cert.ReferenceIdeal.Value.isVoid Cert.ReferenceIdeal.Value.norms
    simp only [StableHlo.TRef.ofBuf_toBuf]
    refine congrArg₂ addf (congrArg₂ mulf rfl ?_) ?_
    · refine (cast_eq _ _).trans (congr (congr (congrArg select ?_) ?_) ?_)
      · exact cast_eq _ _
      · refine (cast_eq _ _).trans (congrArg₂ Host.divf ?_ rfl)
        refine congrArg (fun x => Host.reduceAdd x _ _ _) ((cast_eq _ _).trans (congr (congr (congrArg select ?_) ?_) ?_))
        · exact cast_eq _ _
        · exact cast_eq _ _
        · rfl
      · rfl
    · refine (cast_eq _ _).trans (congr (congr (congrArg select ?_) ?_) ?_)
      · exact cast_eq _ _
      · refine (cast_eq _ _).trans (congrArg₂ Host.divf ?_ rfl)
        refine congrArg (fun x => Host.reduceAdd x _ _ _) ((cast_eq _ _).trans (congr (congr (congrArg select ?_) ?_) ?_))
        · exact cast_eq _ _
        · exact congrArg₂ maximumf (cast_eq _ _) rfl
        · rfl
      · rfl⟩

end Cert.Proof

end
